-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x2x128 : Shape := ⟨3, ![16384, 2, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x20 : Shape := ⟨2, ![256, 20]⟩
abbrev S20 : Shape := ⟨1, ![20]⟩
abbrev S256x3 : Shape := ⟨2, ![256, 3]⟩
abbrev S3 : Shape := ⟨1, ![3]⟩
abbrev S256x1 : Shape := ⟨2, ![256, 1]⟩
abbrev S1 : Shape := ⟨1, ![1]⟩
abbrev S16384 : Shape := ⟨1, ![16384]⟩
abbrev S_ : Shape := ⟨0, ![]⟩

class Facts : Prop where
  bcast_S_S16384x2x128 : S_.BroadcastsInDim S16384x2x128 (![] : Fin 0 → Fin S16384x2x128.rank)
  bcast_S_S256x512 : S_.BroadcastsInDim S256x512 (![] : Fin 0 → Fin S256x512.rank)
  bcast_S_S512 : S_.BroadcastsInDim S512 (![] : Fin 0 → Fin S512.rank)
  bcast_S_S512x256 : S_.BroadcastsInDim S512x256 (![] : Fin 0 → Fin S512x256.rank)
  bcast_S_S256 : S_.BroadcastsInDim S256 (![] : Fin 0 → Fin S256.rank)
  bcast_S_S16384 : S_.BroadcastsInDim S16384 (![] : Fin 0 → Fin S16384.rank)

variable [Facts]

def fn_part1 {F : FTy → Type} [FloatOps F] (main_arg14 : IVec S16384 32) (main_v2 : IVec S16384x2x128 1) (main_v5 : IVec S16384x2x128 1) (main_v8 : IVec S256x512 1) (main_v11 : IVec S512 1) (main_v14 : IVec S512x256 1) (main_v17 : IVec S256 1) : IVec S16384x2x128 1 × IVec S16384x2x128 1 × IVec S256x512 1 × IVec S512 1 × IVec S512x256 1 × IVec S256 1 × IVec S16384 1 × IVec S16384 1 :=
  let main_c : IVec S_ 32 := constantI S_ 32 0#32
  let main_v18 : IVec S16384 32 := broadcastInDim S16384 ![] bcast_S_S16384 main_c
  let main_v19 : IVec S16384 1 := cmpi .sge main_arg14 main_v18
  let main_c_5 : IVec S_ 32 := constantI S_ 32 20#32
  let main_v20 : IVec S16384 32 := broadcastInDim S16384 ![] bcast_S_S16384 main_c_5
  let main_v21 : IVec S16384 1 := cmpi .slt main_arg14 main_v20
  (main_v2, main_v5, main_v8, main_v11, main_v14, main_v17, main_v19, main_v21)

def fn {F : FTy → Type} [FloatOps F] (main_arg0 : FVec F S16384x2x128 .f32) (main_arg1 : FVec F S16384x2x128 .f32) (main_arg2 : FVec F S256x512 .f32) (main_arg3 : FVec F S512 .f32) (main_arg4 : FVec F S512x256 .f32) (main_arg5 : FVec F S256 .f32) (main_arg6 : FVec F S256x20 .f32) (main_arg7 : FVec F S20 .f32) (main_arg8 : FVec F S256x3 .f32) (main_arg9 : FVec F S3 .f32) (main_arg10 : FVec F S512x256 .f32) (main_arg11 : FVec F S256 .f32) (main_arg12 : FVec F S256x1 .f32) (main_arg13 : FVec F S1 .f32) (main_arg14 : IVec S16384 32) : IVec S16384x2x128 1 × IVec S16384x2x128 1 × IVec S256x512 1 × IVec S512 1 × IVec S512x256 1 × IVec S256 1 × IVec S16384 1 × IVec S16384 1 :=
  let main_v0 : FVec F S16384x2x128 .f32 := Host.absf main_arg0
  let main_cst : FVec F S_ .f32 := constant S_ .f32 0x7F800000#32
  let main_v1 : FVec F S16384x2x128 .f32 := broadcastInDim S16384x2x128 ![] bcast_S_S16384x2x128 main_cst
  let main_v2 : IVec S16384x2x128 1 := cmpf .olt main_v0 main_v1
  let main_v3 : FVec F S16384x2x128 .f32 := Host.absf main_arg1
  let main_cst_0 : FVec F S_ .f32 := constant S_ .f32 0x7F800000#32
  let main_v4 : FVec F S16384x2x128 .f32 := broadcastInDim S16384x2x128 ![] bcast_S_S16384x2x128 main_cst_0
  let main_v5 : IVec S16384x2x128 1 := cmpf .olt main_v3 main_v4
  let main_v6 : FVec F S256x512 .f32 := Host.absf main_arg2
  let main_cst_1 : FVec F S_ .f32 := constant S_ .f32 0x7F800000#32
  let main_v7 : FVec F S256x512 .f32 := broadcastInDim S256x512 ![] bcast_S_S256x512 main_cst_1
  let main_v8 : IVec S256x512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512x256 .f32 := Host.absf main_arg4
  let main_cst_3 : FVec F S_ .f32 := constant S_ .f32 0x7F800000#32
  let main_v13 : FVec F S512x256 .f32 := broadcastInDim S512x256 ![] bcast_S_S512x256 main_cst_3
  let main_v14 : IVec S512x256 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg14 main_v2 main_v5 main_v8 main_v11 main_v14 main_v17
-- ==== Kernel.lean ====
abbrev S16384x2x128 : Shape := ⟨3, ![16384, 2, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x20 : Shape := ⟨2, ![256, 20]⟩
abbrev S20 : Shape := ⟨1, ![20]⟩
abbrev S256x3 : Shape := ⟨2, ![256, 3]⟩
abbrev S3 : Shape := ⟨1, ![3]⟩
abbrev S256x1 : Shape := ⟨2, ![256, 1]⟩
abbrev S1 : Shape := ⟨1, ![1]⟩
abbrev S16384 : Shape := ⟨1, ![16384]⟩
abbrev S16384x256 : Shape := ⟨2, ![16384, 256]⟩
abbrev S256x256 : Shape := ⟨2, ![256, 256]⟩
abbrev S16384x1 : Shape := ⟨2, ![16384, 1]⟩
abbrev S1x512 : Shape := ⟨2, ![1, 512]⟩
abbrev S16384x512 : Shape := ⟨2, ![16384, 512]⟩
abbrev S4x1x512 : Shape := ⟨3, ![4, 1, 512]⟩
abbrev S4096x256 : Shape := ⟨2, ![4096, 256]⟩
abbrev S4096x512 : Shape := ⟨2, ![4096, 512]⟩
abbrev S1x1x512 : Shape := ⟨3, ![1, 1, 512]⟩
abbrev S4096x128 : Shape := ⟨2, ![4096, 128]⟩
abbrev S1x256 : Shape := ⟨2, ![1, 256]⟩
abbrev S4x1x256 : Shape := ⟨3, ![4, 1, 256]⟩
abbrev S1x1x256 : Shape := ⟨3, ![1, 1, 256]⟩
abbrev S1x20 : Shape := ⟨2, ![1, 20]⟩
abbrev S1x1 : Shape := ⟨2, ![1, 1]⟩
abbrev S4096x1 : Shape := ⟨2, ![4096, 1]⟩
abbrev S4096x20 : Shape := ⟨2, ![4096, 20]⟩
abbrev S4096 : Shape := ⟨1, ![4096]⟩

abbrev nBuf : Space → Nat
  | .hbm => 40
  | .vmem => 51
  | .smem => 0
  | _ => 0

abbrev bufTy : (tb : Table) → Fin (tcTables nBuf tb) → BufTy
  | .hbm, ⟨0, _⟩ => ⟨S16384x2x128, .f32⟩
  | .hbm, ⟨1, _⟩ => ⟨S16384x2x128, .f32⟩
  | .hbm, ⟨2, _⟩ => ⟨S256x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x20, .f32⟩
  | .hbm, ⟨7, _⟩ => ⟨S20, .f32⟩
  | .hbm, ⟨8, _⟩ => ⟨S256x3, .f32⟩
  | .hbm, ⟨9, _⟩ => ⟨S3, .f32⟩
  | .hbm, ⟨10, _⟩ => ⟨S512x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S16384, .i32⟩
  | .hbm, ⟨15, _⟩ => ⟨S16384x256, .f32⟩
  | .hbm, ⟨16, _⟩ => ⟨S16384x256, .f32⟩
  | .hbm, ⟨17, _⟩ => ⟨S256x256, .f32⟩
  | .hbm, ⟨18, _⟩ => ⟨S256x256, .f32⟩
  | .hbm, ⟨19, _⟩ => ⟨S16384x1, .i32⟩
  | .hbm, ⟨20, _⟩ => ⟨S1x512, .f32⟩
  | .hbm, ⟨21, _⟩ => ⟨S16384x512, .bf16⟩
  | .hbm, ⟨22, _⟩ => ⟨S16384x512, .bf16⟩
  | .hbm, ⟨23, _⟩ => ⟨S4x1x512, .f32⟩
  | .hbm, ⟨24, _⟩ => ⟨S4x1x512, .f32⟩
  | .hbm, ⟨25, _⟩ => ⟨S1x256, .f32⟩
  | .hbm, ⟨26, _⟩ => ⟨S16384x256, .bf16⟩
  | .hbm, ⟨27, _⟩ => ⟨S16384x256, .bf16⟩
  | .hbm, ⟨28, _⟩ => ⟨S4x1x256, .f32⟩
  | .hbm, ⟨29, _⟩ => ⟨S4x1x256, .f32⟩
  | .hbm, ⟨30, _⟩ => ⟨S1x20, .f32⟩
  | .hbm, ⟨31, _⟩ => ⟨S1x256, .f32⟩
  | .hbm, ⟨32, _⟩ => ⟨S1x256, .f32⟩
  | .hbm, ⟨33, _⟩ => ⟨S1x1, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384, .f32⟩
  | .hbm, ⟨38, _⟩ => ⟨S16384, .f32⟩
  | .hbm, ⟨39, _⟩ => ⟨S16384, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x512, .f32⟩
  | .local _ .vmem, ⟨5, _⟩ => ⟨S1x512, .f32⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S4096x512, .bf16⟩
  | .local _ .vmem, ⟨15, _⟩ => ⟨S4096x512, .bf16⟩
  | .local _ .vmem, ⟨16, _⟩ => ⟨S4096x512, .bf16⟩
  | .local _ .vmem, ⟨17, _⟩ => ⟨S4096x512, .bf16⟩
  | .local _ .vmem, ⟨18, _⟩ => ⟨S4x1x512, .f32⟩
  | .local _ .vmem, ⟨19, _⟩ => ⟨S4x1x512, .f32⟩
  | .local _ .vmem, ⟨20, _⟩ => ⟨S512x256, .f32⟩
  | .local _ .vmem, ⟨21, _⟩ => ⟨S1x256, .f32⟩
  | .local _ .vmem, ⟨22, _⟩ => ⟨S4096x256, .bf16⟩
  | .local _ .vmem, ⟨23, _⟩ => ⟨S4096x256, .bf16⟩
  | .local _ .vmem, ⟨24, _⟩ => ⟨S4096x256, .bf16⟩
  | .local _ .vmem, ⟨25, _⟩ => ⟨S4096x256, .bf16⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1x256, .f32⟩
  | .local _ .vmem, ⟨30, _⟩ => ⟨S4096x256, .bf16⟩
  | .local _ .vmem, ⟨31, _⟩ => ⟨S4096x256, .bf16⟩
  | .local _ .vmem, ⟨32, _⟩ => ⟨S4096x256, .bf16⟩
  | .local _ .vmem, ⟨33, _⟩ => ⟨S4096x256, .bf16⟩
  | .local _ .vmem, ⟨34, _⟩ => ⟨S4x1x256, .f32⟩
  | .local _ .vmem, ⟨35, _⟩ => ⟨S4x1x256, .f32⟩
  | .local _ .vmem, ⟨36, _⟩ => ⟨S256x20, .f32⟩
  | .local _ .vmem, ⟨37, _⟩ => ⟨S1x20, .f32⟩
  | .local _ .vmem, ⟨38, _⟩ => ⟨S256x256, .f32⟩
  | .local _ .vmem, ⟨39, _⟩ => ⟨S256x256, .f32⟩
  | .local _ .vmem, ⟨40, _⟩ => ⟨S1x256, .f32⟩
  | .local _ .vmem, ⟨41, _⟩ => ⟨S1x256, .f32⟩
  | .local _ .vmem, ⟨42, _⟩ => ⟨S1x1, .f32⟩
  | .local _ .vmem, ⟨43, _⟩ => ⟨S4096x1, .i32⟩
  | .local _ .vmem, ⟨44, _⟩ => ⟨S4096x1, .i32⟩
  | .local _ .vmem, ⟨45, _⟩ => ⟨S4096x1, .f32⟩
  | .local _ .vmem, ⟨46, _⟩ => ⟨S4096x1, .f32⟩
  | .local _ .vmem, ⟨47, _⟩ => ⟨S4096x1, .f32⟩
  | .local _ .vmem, ⟨48, _⟩ => ⟨S4096x1, .f32⟩
  | .local _ .vmem, ⟨49, _⟩ => ⟨S4096x1, .f32⟩
  | .local _ .vmem, ⟨50, _⟩ => ⟨S4096x1, .f32⟩
  | _, _ => ⟨S16384x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v8_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v13_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc2_stg12_0 : Ref sig .tc := ⟨.vmem, 45, rfl⟩
abbrev cc2_stg12_1 : Ref sig .tc := ⟨.vmem, 46, rfl⟩
abbrev cc2_stg13_0 : Ref sig .tc := ⟨.vmem, 47, rfl⟩
abbrev cc2_stg13_1 : Ref sig .tc := ⟨.vmem, 48, rfl⟩
abbrev cc2_stg14_0 : Ref sig .tc := ⟨.vmem, 49, rfl⟩
abbrev cc2_stg14_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem11_1 : DmaSem sig := 44
abbrev cc2_sem12_0 : DmaSem sig := 45
abbrev cc2_sem12_1 : DmaSem sig := 46
abbrev cc2_sem13_0 : DmaSem sig := 47
abbrev cc2_sem13_1 : DmaSem sig := 48
abbrev cc2_sem14_0 : DmaSem sig := 49
abbrev cc2_sem14_1 : DmaSem sig := 50

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4096x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x20 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x20 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4096x1 .i32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S4096x1 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S4096x1 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S4096x1 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]
-- ==== ReferenceIdeal.lean ====
abbrev S16384x2x128 : Shape := ⟨3, ![16384, 2, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x20 : Shape := ⟨2, ![256, 20]⟩
abbrev S20 : Shape := ⟨1, ![20]⟩
abbrev S256x3 : Shape := ⟨2, ![256, 3]⟩
abbrev S3 : Shape := ⟨1, ![3]⟩
abbrev S256x1 : Shape := ⟨2, ![256, 1]⟩
abbrev S1 : Shape := ⟨1, ![1]⟩
abbrev S16384 : Shape := ⟨1, ![16384]⟩
abbrev S32768x128 : Shape := ⟨2, ![32768, 128]⟩
abbrev S32768x256 : Shape := ⟨2, ![32768, 256]⟩
abbrev S32768x512 : Shape := ⟨2, ![32768, 512]⟩
abbrev S1x512 : Shape := ⟨2, ![1, 512]⟩
abbrev S_ : Shape := ⟨0, ![]⟩
abbrev S1x256 : Shape := ⟨2, ![1, 256]⟩
abbrev S16384x2x256 : Shape := ⟨3, ![16384, 2, 256]⟩
abbrev S16384x1x256 : Shape := ⟨3, ![16384, 1, 256]⟩
abbrev S16384x256 : Shape := ⟨2, ![16384, 256]⟩
abbrev S16384x20 : Shape := ⟨2, ![16384, 20]⟩
abbrev S1x20 : Shape := ⟨2, ![1, 20]⟩
abbrev S16384x1 : Shape := ⟨2, ![16384, 1]⟩
abbrev S16384x3 : Shape := ⟨2, ![16384, 3]⟩
abbrev S1x3 : Shape := ⟨2, ![1, 3]⟩
abbrev S16384x1x1 : Shape := ⟨3, ![16384, 1, 1]⟩
abbrev S1x1x1 : Shape := ⟨3, ![1, 1, 1]⟩
abbrev S16384x512 : Shape := ⟨2, ![16384, 512]⟩
abbrev S1x1 : Shape := ⟨2, ![1, 1]⟩

abbrev nBuf : Space → Nat
  | .hbm => 231
  | .vmem => 0
  | .smem => 0
  | _ => 0

abbrev hbmTy0_0 (i : Nat) : BufTy := match i % 128 with
  | 0 => ⟨S16384x2x128, .f32⟩
  | 1 => ⟨S16384x2x128, .f32⟩
  | 2 => ⟨S256x512, .f32⟩
  | 3 => ⟨S512, .f32⟩
  | 4 => ⟨S512x256, .f32⟩
  | 5 => ⟨S256, .f32⟩
  | 6 => ⟨S256x20, .f32⟩
  | 7 => ⟨S20, .f32⟩
  | 8 => ⟨S256x3, .f32⟩
  | 9 => ⟨S3, .f32⟩
  | 10 => ⟨S512x256, .f32⟩
  | 11 => ⟨S256, .f32⟩
  | 12 => ⟨S256x1, .f32⟩
  | 13 => ⟨S1, .f32⟩
  | 14 => ⟨S16384, .i32⟩
  | 15 => ⟨S32768x128, .f32⟩
  | 16 => ⟨S32768x128, .f32⟩
  | 17 => ⟨S32768x256, .f32⟩
  | 18 => ⟨S32768x512, .f32⟩
  | 19 => ⟨S1x512, .f32⟩
  | 20 => ⟨S32768x512, .f32⟩
  | 21 => ⟨S32768x512, .f32⟩
  | 22 => ⟨S32768x512, .f32⟩
  | 23 => ⟨S32768x512, .f32⟩
  | 24 => ⟨S_, .f32⟩
  | 25 => ⟨S32768x512, .f32⟩
  | 26 => ⟨S32768x512, .f32⟩
  | 27 => ⟨S32768x512, .f32⟩
  | 28 => ⟨S_, .f32⟩
  | 29 => ⟨S32768x512, .f32⟩
  | 30 => ⟨S32768x512, .f32⟩
  | 31 => ⟨S32768x512, .f32⟩
  | 32 => ⟨S_, .f32⟩
  | 33 => ⟨S32768x512, .f32⟩
  | 34 => ⟨S32768x512, .f32⟩
  | 35 => ⟨S_, .f32⟩
  | 36 => ⟨S32768x512, .f32⟩
  | 37 => ⟨S32768x512, .f32⟩
  | 38 => ⟨S32768x512, .f32⟩
  | 39 => ⟨S_, .f32⟩
  | 40 => ⟨S512, .f32⟩
  | 41 => ⟨S1x512, .f32⟩
  | 42 => ⟨S_, .f32⟩
  | 43 => ⟨S1x512, .f32⟩
  | 44 => ⟨S1x512, .f32⟩
  | 45 => ⟨S_, .i32⟩
  | 46 => ⟨S_, .f32⟩
  | 47 => ⟨S512, .f32⟩
  | 48 => ⟨S1x512, .f32⟩
  | 49 => ⟨S_, .f32⟩
  | 50 => ⟨S1x512, .f32⟩
  | 51 => ⟨S1x512, .f32⟩
  | 52 => ⟨S32768x512, .f32⟩
  | 53 => ⟨S32768x512, .f32⟩
  | 54 => ⟨S32768x512, .f32⟩
  | 55 => ⟨S_, .f32⟩
  | 56 => ⟨S_, .f32⟩
  | 57 => ⟨S_, .f32⟩
  | 58 => ⟨S_, .f32⟩
  | 59 => ⟨S512, .f32⟩
  | 60 => ⟨S1x512, .f32⟩
  | 61 => ⟨S1x512, .f32⟩
  | 62 => ⟨S1x512, .f32⟩
  | 63 => ⟨S_, .f32⟩
  | 64 => ⟨S_, .i1⟩
  | 65 => ⟨S_, .f32⟩
  | 66 => ⟨S_, .f32⟩
  | 67 => ⟨S1x512, .f32⟩
  | 68 => ⟨S1x512, .f32⟩
  | 69 => ⟨S32768x512, .f32⟩
  | 70 => ⟨S32768x512, .f32⟩
  | 71 => ⟨S_, .f32⟩
  | 72 => ⟨S1x512, .f32⟩
  | 73 => ⟨S1x512, .f32⟩
  | 74 => ⟨S1x512, .f32⟩
  | 75 => ⟨S32768x512, .f32⟩
  | 76 => ⟨S32768x512, .f32⟩
  | 77 => ⟨S32768x256, .f32⟩
  | 78 => ⟨S1x256, .f32⟩
  | 79 => ⟨S32768x256, .f32⟩
  | 80 => ⟨S32768x256, .f32⟩
  | 81 => ⟨S32768x256, .f32⟩
  | 82 => ⟨S32768x256, .f32⟩
  | 83 => ⟨S_, .f32⟩
  | 84 => ⟨S32768x256, .f32⟩
  | 85 => ⟨S32768x256, .f32⟩
  | 86 => ⟨S32768x256, .f32⟩
  | 87 => ⟨S_, .f32⟩
  | 88 => ⟨S32768x256, .f32⟩
  | 89 => ⟨S32768x256, .f32⟩
  | 90 => ⟨S32768x256, .f32⟩
  | 91 => ⟨S_, .f32⟩
  | 92 => ⟨S32768x256, .f32⟩
  | 93 => ⟨S32768x256, .f32⟩
  | 94 => ⟨S_, .f32⟩
  | 95 => ⟨S32768x256, .f32⟩
  | 96 => ⟨S32768x256, .f32⟩
  | 97 => ⟨S32768x256, .f32⟩
  | 98 => ⟨S_, .f32⟩
  | 99 => ⟨S256, .f32⟩
  | 100 => ⟨S1x256, .f32⟩
  | 101 => ⟨S_, .f32⟩
  | 102 => ⟨S1x256, .f32⟩
  | 103 => ⟨S1x256, .f32⟩
  | 104 => ⟨S_, .i32⟩
  | 105 => ⟨S_, .f32⟩
  | 106 => ⟨S256, .f32⟩
  | 107 => ⟨S1x256, .f32⟩
  | 108 => ⟨S_, .f32⟩
  | 109 => ⟨S1x256, .f32⟩
  | 110 => ⟨S1x256, .f32⟩
  | 111 => ⟨S32768x256, .f32⟩
  | 112 => ⟨S32768x256, .f32⟩
  | 113 => ⟨S32768x256, .f32⟩
  | 114 => ⟨S_, .f32⟩
  | 115 => ⟨S_, .f32⟩
  | 116 => ⟨S_, .f32⟩
  | 117 => ⟨S_, .f32⟩
  | 118 => ⟨S256, .f32⟩
  | 119 => ⟨S1x256, .f32⟩
  | 120 => ⟨S1x256, .f32⟩
  | 121 => ⟨S1x256, .f32⟩
  | 122 => ⟨S_, .f32⟩
  | 123 => ⟨S_, .i1⟩
  | 124 => ⟨S_, .f32⟩
  | 125 => ⟨S_, .f32⟩
  | 126 => ⟨S1x256, .f32⟩
  | 127 => ⟨S1x256, .f32⟩
  | _ => ⟨S16384x2x128, .f32⟩

abbrev hbmTy0_1 (i : Nat) : BufTy := match i % 128 with
  | 0 => ⟨S32768x256, .f32⟩
  | 1 => ⟨S32768x256, .f32⟩
  | 2 => ⟨S_, .f32⟩
  | 3 => ⟨S1x256, .f32⟩
  | 4 => ⟨S1x256, .f32⟩
  | 5 => ⟨S1x256, .f32⟩
  | 6 => ⟨S32768x256, .f32⟩
  | 7 => ⟨S32768x256, .f32⟩
  | 8 => ⟨S16384x2x256, .f32⟩
  | 9 => ⟨S16384x1x256, .f32⟩
  | 10 => ⟨S16384x256, .f32⟩
  | 11 => ⟨S16384x20, .f32⟩
  | 12 => ⟨S1x20, .f32⟩
  | 13 => ⟨S16384x20, .f32⟩
  | 14 => ⟨S16384x20, .f32⟩
  | 15 => ⟨S_, .f32⟩
  | 16 => ⟨S16384, .f32⟩
  | 17 => ⟨S_, .f32⟩
  | 18 => ⟨S16384, .f32⟩
  | 19 => ⟨S16384, .f32⟩
  | 20 => ⟨S16384x1, .f32⟩
  | 21 => ⟨S16384x20, .f32⟩
  | 22 => ⟨S16384x20, .f32⟩
  | 23 => ⟨S16384x20, .f32⟩
  | 24 => ⟨S_, .f32⟩
  | 25 => ⟨S16384, .f32⟩
  | 26 => ⟨S16384x1, .f32⟩
  | 27 => ⟨S16384x20, .f32⟩
  | 28 => ⟨S16384x20, .f32⟩
  | 29 => ⟨S16384x3, .f32⟩
  | 30 => ⟨S1x3, .f32⟩
  | 31 => ⟨S16384x3, .f32⟩
  | 32 => ⟨S16384x3, .f32⟩
  | 33 => ⟨S_, .f32⟩
  | 34 => ⟨S16384, .f32⟩
  | 35 => ⟨S_, .f32⟩
  | 36 => ⟨S16384, .f32⟩
  | 37 => ⟨S16384, .f32⟩
  | 38 => ⟨S16384x1, .f32⟩
  | 39 => ⟨S16384x3, .f32⟩
  | 40 => ⟨S16384x3, .f32⟩
  | 41 => ⟨S16384x3, .f32⟩
  | 42 => ⟨S_, .f32⟩
  | 43 => ⟨S16384, .f32⟩
  | 44 => ⟨S16384x1, .f32⟩
  | 45 => ⟨S16384x3, .f32⟩
  | 46 => ⟨S16384x3, .f32⟩
  | 47 => ⟨S16384x20, .f32⟩
  | 48 => ⟨S16384x1, .i32⟩
  | 49 => ⟨S_, .i32⟩
  | 50 => ⟨S16384x1, .i32⟩
  | 51 => ⟨S16384x1, .i1⟩
  | 52 => ⟨S_, .i32⟩
  | 53 => ⟨S16384x1, .i32⟩
  | 54 => ⟨S16384x1, .i32⟩
  | 55 => ⟨S16384x1, .i32⟩
  | 56 => ⟨S16384x1x1, .i32⟩
  | 57 => ⟨S1, .i32⟩
  | 58 => ⟨S_, .i32⟩
  | 59 => ⟨S16384x1x1, .i32⟩
  | 60 => ⟨S16384x1x1, .i1⟩
  | 61 => ⟨S1x1x1, .i32⟩
  | 62 => ⟨S16384x1x1, .i32⟩
  | 63 => ⟨S16384x1x1, .i1⟩
  | 64 => ⟨S16384x1x1, .i1⟩
  | 65 => ⟨S_, .i1⟩
  | 66 => ⟨S16384x1, .i1⟩
  | 67 => ⟨S16384x1, .f32⟩
  | 68 => ⟨S_, .f32⟩
  | 69 => ⟨S16384x1, .f32⟩
  | 70 => ⟨S16384x1, .f32⟩
  | 71 => ⟨S16384, .f32⟩
  | 72 => ⟨S16384x20, .f32⟩
  | 73 => ⟨S_, .f32⟩
  | 74 => ⟨S16384, .f32⟩
  | 75 => ⟨S16384, .f32⟩
  | 76 => ⟨S16384x512, .f32⟩
  | 77 => ⟨S16384x256, .f32⟩
  | 78 => ⟨S1x256, .f32⟩
  | 79 => ⟨S16384x256, .f32⟩
  | 80 => ⟨S16384x256, .f32⟩
  | 81 => ⟨S16384x256, .f32⟩
  | 82 => ⟨S16384x256, .f32⟩
  | 83 => ⟨S_, .f32⟩
  | 84 => ⟨S16384x256, .f32⟩
  | 85 => ⟨S16384x256, .f32⟩
  | 86 => ⟨S16384x256, .f32⟩
  | 87 => ⟨S_, .f32⟩
  | 88 => ⟨S16384x256, .f32⟩
  | 89 => ⟨S16384x256, .f32⟩
  | 90 => ⟨S16384x256, .f32⟩
  | 91 => ⟨S_, .f32⟩
  | 92 => ⟨S16384x256, .f32⟩
  | 93 => ⟨S16384x256, .f32⟩
  | 94 => ⟨S_, .f32⟩
  | 95 => ⟨S16384x256, .f32⟩
  | 96 => ⟨S16384x256, .f32⟩
  | 97 => ⟨S16384x256, .f32⟩
  | 98 => ⟨S16384x1, .f32⟩
  | 99 => ⟨S1x1, .f32⟩
  | 100 => ⟨S16384x1, .f32⟩
  | 101 => ⟨S16384x1, .f32⟩
  | 102 => ⟨S16384, .f32⟩
  | _ => ⟨S16384x2x128, .f32⟩

abbrev hbmTy (i : Nat) : BufTy := match i / 128 with
  | 0 => hbmTy0_0 i
  | 1 => hbmTy0_1 i
  | _ => ⟨S16384x2x128, .f32⟩

abbrev bufTy : (tb : Table) → Fin (tcTables nBuf tb) → BufTy
  | .hbm, ⟨i, _⟩ => hbmTy i
  | _, _ => ⟨S16384x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_cst_3 : Ref sig .tc := ⟨.hbm, 63, rfl⟩
abbrev main_call0_v13 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_5 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_6 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_7 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_8 : Ref sig .tc := ⟨.hbm, 91, rfl⟩
abbrev main_v44 : Ref sig .tc := ⟨.hbm, 92, rfl⟩
abbrev main_v45 : Ref sig .tc := ⟨.hbm, 93, rfl⟩
abbrev main_cst_9 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_10 : Ref sig .tc := ⟨.hbm, 98, rfl⟩
abbrev main_v49 : Ref sig .tc := ⟨.hbm, 99, rfl⟩
abbrev main_v50 : Ref sig .tc := ⟨.hbm, 100, rfl⟩
abbrev main_cst_11 : Ref sig .tc := ⟨.hbm, 101, rfl⟩
abbrev main_v51 : Ref sig .tc := ⟨.hbm, 102, rfl⟩
abbrev main_v52 : Ref sig .tc := ⟨.hbm, 103, rfl⟩
abbrev main_c_12 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_v12 : Ref sig .tc := ⟨.hbm, 121, rfl⟩
abbrev main_call1_cst_3 : Ref sig .tc := ⟨.hbm, 122, rfl⟩
abbrev main_call1_v13 : Ref sig .tc := ⟨.hbm, 123, rfl⟩
abbrev main_call1_cst_4 : Ref sig .tc := ⟨.hbm, 124, rfl⟩
abbrev main_call1_call0_v0 : Ref sig .tc := ⟨.hbm, 125, rfl⟩
abbrev main_call1_call0_v1 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_cst_13 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_cst_14 : Ref sig .tc := ⟨.hbm, 143, rfl⟩
abbrev main_v68 : Ref sig .tc := ⟨.hbm, 144, rfl⟩
abbrev main_cst_15 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_cst_16 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_cst_17 : Ref sig .tc := ⟨.hbm, 161, rfl⟩
abbrev main_v83 : Ref sig .tc := ⟨.hbm, 162, rfl⟩
abbrev main_cst_18 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_cst_19 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_call2_c : Ref sig .tc := ⟨.hbm, 177, rfl⟩
abbrev main_call2_v0 : Ref sig .tc := ⟨.hbm, 178, rfl⟩
abbrev main_call2_v1 : Ref sig .tc := ⟨.hbm, 179, rfl⟩
abbrev main_call2_c_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_v5 : Ref sig .tc := ⟨.hbm, 184, rfl⟩
abbrev main_call2_c_1 : Ref sig .tc := ⟨.hbm, 185, rfl⟩
abbrev main_call2_c_2 : Ref sig .tc := ⟨.hbm, 186, rfl⟩
abbrev main_call2_v6 : Ref sig .tc := ⟨.hbm, 187, rfl⟩
abbrev main_call2_v7 : Ref sig .tc := ⟨.hbm, 188, rfl⟩
abbrev main_call2_v8 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_call2_c_3 : Ref sig .tc := ⟨.hbm, 193, rfl⟩
abbrev main_call2_v12 : Ref sig .tc := ⟨.hbm, 194, rfl⟩
abbrev main_call2_v13 : Ref sig .tc := ⟨.hbm, 195, rfl⟩
abbrev main_call2_cst : Ref sig .tc := ⟨.hbm, 196, rfl⟩
abbrev main_call2_v14 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_cst_20 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_cst_21 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_cst_22 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_cst_23 : Ref sig .tc := ⟨.hbm, 219, rfl⟩
abbrev main_v114 : Ref sig .tc := ⟨.hbm, 220, rfl⟩
abbrev main_v115 : Ref sig .tc := ⟨.hbm, 221, rfl⟩
abbrev main_cst_24 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩

abbrev nD : Nat := 1
abbrev τ : Topo := Topo.v7x

variable {F : FTy → Type} [FloatOps F]
-- ==== Proof.Launch.lean ====
/- The kernel's run: from any memory every execution ends with every buffer that outlives the calls at the contents the
   boundary after the last host operation is computed to have. -/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, nothing faulting, with the buffers at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hheld, Hreg, Howes⟩
      isplitl [Hheld Hreg]
      · isplitl [Hheld]; · iexact Hheld
        iexact Hreg
      iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]; · iexact Hheld
      isplitl [Hreg]; · iexists _; iexact Hreg
      iexists ∅; iexact Howes)
    (QY := fun c s => ∀ b ∈ Pipeline.ucRefs τ sig, s.mem (((c : Thread nD τ)).1, b) = W7 m ρ c b)
    (hfin := fun c s' => by
      iintro ⟨⟨Hheld, -⟩, Hstate⟩
      unfold StableHlo.held
      imodintro
      iapply (pointsTo_read_all (Pipeline.ucRefs τ sig) (fun b => (((c : Thread nD τ)).1, b)) (W7 m ρ c) s')
      isplitl [Hheld] <;> iassumption)
    (hQ := fun _ h _ c b hb => h c _ (mem_uc b hb))

end Cert.KernelIdeal.Whole

end
-- ==== Proof.Consts.lean ====
/- The float constants the two programs spell, as the extended reals their patterns denote. The kernel and the
   reference spell the same patterns, so most of them are only needed as "some real number"; the row count, zero and
   minus infinity are needed exactly, and the variance offset only as a positive number. -/
module

public import Idealize.ShloMosaic.PureOps.Ideal

@[expose] public section

noncomputable section

namespace Cert.Consts

open Idealize.ShloMosaic

/-- `-∞`, the value a row maximum starts from. -/
theorem neg_inf : Ideal.ofBits .f32 0xFF800000#32 = ⊥ := by
  simp [Ideal.ofBits, Ideal.ieee]

/-- `+∞`, which the precondition compares magnitudes with. -/
theorem pos_inf : Ideal.ofBits .f32 0x7F800000#32 = ⊤ := by
  simp [Ideal.ofBits, Ideal.ieee]

/-- The number of rows a column is averaged over, `32768 = 2 · 16384`. -/
theorem rows : Ideal.ofBits .f32 0x47000000#32 = ((32768 : ℝ) : EReal) := by
  simp [Ideal.ofBits, Ideal.ieee, -EReal.coe_mul]; norm_num

/-- The positive number added to a variance before its square root. -/
theorem eps : ∃ r : ℝ, 0 < r ∧ Ideal.ofBits .f32 0x3727C5AC#32 = (r : EReal) := by
  refine ⟨10995116 * 2 ^ (-40 : ℤ), by norm_num, ?_⟩
  simp [Ideal.ofBits, Ideal.ieee, -EReal.coe_mul]

/-- The cubic term's coefficient in the activation is a real number. -/
theorem cubic : ∃ r : ℝ, Ideal.ofBits .f32 0x3D372713#32 = (r : EReal) := by
  simp [Ideal.ofBits, Ideal.ieee, -EReal.coe_mul]

/-- The scale inside the activation's hyperbolic tangent is a real number. -/
theorem scale : ∃ r : ℝ, Ideal.ofBits .f32 0x3F4C422A#32 = (r : EReal) := by
  simp [Ideal.ofBits, Ideal.ieee, -EReal.coe_mul]

/-- `1.0` is a real number. -/
theorem one : ∃ r : ℝ, Ideal.ofBits .f32 0x3F800000#32 = (r : EReal) := by
  simp [Ideal.ofBits, Ideal.ieee, -EReal.coe_mul]

/-- `0.5` is a real number. -/
theorem half : ∃ r : ℝ, Ideal.ofBits .f32 0x3F000000#32 = (r : EReal) := by
  simp [Ideal.ofBits, Ideal.ieee, -EReal.coe_mul]

end Cert.Consts

end
-- ==== Proof.Softmax.lean ====
/- The logarithm of a softmax, written two ways: the logarithm of the quotient, and the difference of the shifted logit
   and the logarithm of the sum. They agree at EVERY row of extended reals, infinite logits included. -/
module

public import Idealize.ShloMosaic.PureOps.Ideal
public import Idealize.ShloMosaic.PureOps.Ideal.Laws

@[expose] public section

noncomputable section

namespace Cert.Alg

open Idealize.ShloMosaic

/-- A finite sum of real numbers read as extended reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- An extended real is minus infinity, a real number, or plus infinity. -/
theorem trichotomy (x : EReal) : x = ⊥ ∨ (∃ r : ℝ, x = (r : EReal)) ∨ x = ⊤ := by
  induction x using EReal.rec with
  | bot => exact Or.inl rfl
  | coe r => exact Or.inr (Or.inl ⟨r, rfl⟩)
  | top => exact Or.inr (Or.inr rfl)

/-- The greatest of a row's logits (from minus infinity). -/
def rowMax {n : ℕ} (L : Fin n → EReal) : EReal := Finset.univ.fold max ⊥ L

/-- The exponential of a logit shifted by the row's maximum. -/
def expo {n : ℕ} (L : Fin n → EReal) (k : Fin n) : EReal := Ideal.exp (L k - rowMax L)

/-- The row's sum of exponentials. -/
def expoSum {n : ℕ} (L : Fin n → EReal) : EReal := ∑ k, expo L k

/-- Every logit is at most the row's maximum. -/
theorem le_rowMax {n : ℕ} (L : Fin n → EReal) (k : Fin n) : L k ≤ rowMax L := by
  unfold rowMax
  exact (Finset.le_fold_max _).2 (Or.inr ⟨k, Finset.mem_univ k, le_rfl⟩)

/-- A row's maximum above minus infinity is one of its logits. -/
theorem exists_rowMax {n : ℕ} (L : Fin n → EReal) (h : ⊥ < rowMax L) : ∃ k, rowMax L ≤ L k := by
  have : rowMax L ≤ rowMax L := le_rfl
  unfold rowMax at this h
  rcases (Finset.le_fold_max _).1 this with h' | ⟨k, -, h'⟩
  · exact absurd h (not_lt_of_ge h')
  · exact ⟨k, h'⟩

/-- Where every shifted logit is minus infinity, the exponentials and their sum are zero. -/
theorem logSoftmax_of_bot {n : ℕ} (L : Fin n → EReal) (h : ∀ k, L k - rowMax L = ⊥) (k : Fin n) :
    Ideal.log (Ideal.div (expo L k) (expoSum L)) = (L k - rowMax L) - Ideal.log (expoSum L) := by
  have he : ∀ k, expo L k = 0 := fun k => by unfold expo; rw [h k]; rfl
  have hs : expoSum L = 0 := by unfold expoSum; exact Finset.sum_eq_zero fun k _ => he k
  rw [he, hs, h k]
  simp [Ideal.div]

/-- THE TWO FORMS OF A LOG-PROBABILITY AGREE, whatever the logits. -/
theorem logSoftmax {n : ℕ} (L : Fin n → EReal) (k : Fin n) :
    Ideal.log (Ideal.div (expo L k) (expoSum L)) = (L k - rowMax L) - Ideal.log (expoSum L) := by
  have hle := le_rowMax L
  rcases trichotomy (rowMax L) with hM | ⟨m, hM⟩ | hM
  · refine logSoftmax_of_bot L (fun k => ?_) k
    have := hle k
    rw [hM] at this ⊢
    rw [le_bot_iff.1 this]
    rfl
  · obtain ⟨k0, hk0⟩ := exists_rowMax L (by rw [hM]; exact EReal.bot_lt_coe m)
    have hx : ∀ k, ∃ r : ℝ, 0 ≤ r ∧ expo L k = (r : EReal) := fun k => by
      have := hle k
      rw [hM] at this
      unfold expo
      rw [hM]
      rcases trichotomy (L k) with hL | ⟨l, hL⟩ | hL
      · rw [hL]; exact ⟨0, le_rfl, rfl⟩
      · rw [hL]; exact ⟨Real.exp (l - m), (Real.exp_pos _).le, rfl⟩
      · rw [hL] at this; exact absurd (top_le_iff.1 this) (EReal.coe_ne_top m)
    choose e he0 he using hx
    have hs : expoSum L = ((∑ k, e k : ℝ) : EReal) := by
      unfold expoSum; rw [← coe_sum]; exact Finset.sum_congr rfl fun k _ => he k
    have h1 : e k0 = 1 := by
      have hk : L k0 = (m : EReal) := le_antisymm (hM ▸ hle k0) (hM ▸ hk0)
      have : expo L k0 = ((1 : ℝ) : EReal) := by
        unfold expo; rw [hM, hk]
        show ((Real.exp (m - m) : ℝ) : EReal) = _
        rw [sub_self, Real.exp_zero]
      rw [he k0] at this
      exact_mod_cast this
    have hpos : 0 < ∑ k, e k := by
      refine lt_of_lt_of_le one_pos ?_
      rw [← h1]
      exact Finset.single_le_sum (fun k _ => he0 k) (Finset.mem_univ k0)
    generalize hS : ∑ k, e k = S at hs hpos
    have hlogS : Ideal.log (S : EReal) = (Real.log S : EReal) := by
      rw [Ideal.log_coe, if_neg (not_le.2 hpos)]
    have hk := hle k
    rw [hM] at hk
    rw [hs, hlogS]
    unfold expo
    rw [hM, Ideal.div_coe hpos.ne']
    rcases trichotomy (L k) with hL | ⟨l, hL⟩ | hL
    · rw [hL]; show Ideal.log ((0 : EReal) * _) = (⊥ : EReal) - (m : EReal) - _
      rw [zero_mul]
      show Ideal.log ((0 : ℝ) : EReal) = _
      rw [Ideal.log_coe, if_pos le_rfl]
      rfl
    · rw [hL]; show Ideal.log (((Real.exp (l - m) : ℝ) : EReal) * ((1 / S : ℝ) : EReal)) = ((l - m - Real.log S : ℝ) : EReal)
      rw [← EReal.coe_mul, Ideal.log_coe, if_neg (not_le.2 (by positivity)),
        Real.log_mul (Real.exp_pos _).ne' (by positivity), Real.log_exp, one_div, Real.log_inv, ← sub_eq_add_neg]
    · rw [hL] at hk; exact absurd (top_le_iff.1 hk) (EReal.coe_ne_top m)
  · refine logSoftmax_of_bot L (fun k => ?_) k
    rw [hM, sub_eq_add_neg]
    show L k + ⊥ = ⊥
    exact EReal.add_bot _

/-- Picking one entry out of a row by a sum against the indicator of its position. -/
theorem sum_onehot {n : ℕ} (f : Fin n → EReal) (a : Fin n) : ∑ k, f k * (if k = a then 1 else 0) = f a := by
  rw [Finset.sum_eq_single a]
  · simp
  · intro b _ h; simp [h]
  · intro h; exact absurd (Finset.mem_univ a) h

end Cert.Alg

end
-- ==== Proof.Norm.lean ====
/- The activation and the column normalisation of the two shared layers, in the kernel's form and in the reference's,
   and their equality on columns of real numbers. The kernel sums a column in eight pieces (four row blocks, each the two
   players' rows apart) and takes the variance as the mean square less the squared mean; the reference sums the 32768
   interleaved rows and takes the mean squared deviation. -/
module

public import proofs.«01_k».proof.Proof.Consts
public import proofs.«01_k».proof.Proof.Softmax

@[expose] public section

noncomputable section

namespace Cert.Alg

open Idealize.ShloMosaic

/-- The row of the 32768-row arrays that holds player `p` of batch element `b`. -/
def row (p : Fin 2) (b : Fin 16384) : Fin 32768 := ⟨2 * b.val + p.val, by have := b.isLt; have := p.isLt; omega⟩

/-- Row `r` of block `t` among the 16384 batch elements. -/
def blk (t : Fin 4) (r : Fin 4096) : Fin 16384 := ⟨4096 * t.val + r.val, by have := t.isLt; have := r.isLt; omega⟩

/-- The activation `x · (½ · (1 + tanh (s · (x + c · x³))))`. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- An affine layer: a row times a matrix plus a bias. -/
def lin {K J : ℕ} (x : Fin K → EReal) (W : Fin K → Fin J → EReal) (b : Fin J → EReal) (j : Fin J) : EReal :=
  (∑ k, x k * W k j) + b j

/-- An extended real that is a real number. -/
def IsReal (x : EReal) : Prop := ∃ r : ℝ, x = (r : EReal)

/-- Sums, products and finite sums of real numbers are real, -/
theorem IsReal.add {x y : EReal} : IsReal x → IsReal y → IsReal (x + y)
  | ⟨a, ha⟩, ⟨b, hb⟩ => ⟨a + b, by rw [ha, hb, EReal.coe_add]⟩
/-- products too, -/
theorem IsReal.mul {x y : EReal} : IsReal x → IsReal y → IsReal (x * y)
  | ⟨a, ha⟩, ⟨b, hb⟩ => ⟨a * b, by rw [ha, hb, EReal.coe_mul]⟩
/-- finite sums too, -/
theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩
/-- the hyperbolic tangent too, -/
theorem IsReal.tanh {x : EReal} : IsReal x → IsReal (Ideal.tanh x)
  | ⟨a, ha⟩ => ⟨Real.tanh a, by rw [ha]; rfl⟩
/-- hence the activation -/
theorem IsReal.gelu {x : EReal} (h : IsReal x) : IsReal (gelu x) :=
  h.mul (IsReal.mul Consts.half (IsReal.add Consts.one
    (IsReal.tanh (IsReal.mul Consts.scale (h.add (IsReal.mul Consts.cubic (h.mul (h.mul h))))))))
/-- and an affine layer. -/
theorem IsReal.lin {K J : ℕ} {x : Fin K → EReal} {W : Fin K → Fin J → EReal} {b : Fin J → EReal}
    (hx : ∀ k, IsReal (x k)) (hW : ∀ k j, IsReal (W k j)) (hb : ∀ j, IsReal (b j)) (j : Fin J) : IsReal (lin x W b j) :=
  (IsReal.sum fun k => (hx k).mul (hW k j)).add (hb j)

/-! ## A column's sum, in eight pieces and whole -/

/-- One row block's sum of a quantity over both players' rows. -/
def psum (f : Fin 2 → Fin 16384 → EReal) (t : Fin 4) : EReal := (∑ r, f 0 (blk t r)) + ∑ r, f 1 (blk t r)

/-- The four blocks' sums add up to the sum over all rows. -/
theorem sum_psum (F : Fin 32768 → EReal) : ∑ t, psum (fun p b => F (row p b)) t = ∑ r, F r := by
  have e2 : ∑ r, F r = ∑ x : Fin 16384 × Fin 2, F (row x.2 x.1) :=
    (Equiv.sum_comp (finProdFinEquiv (m := 16384) (n := 2)) F).symm.trans
      (Finset.sum_congr rfl fun x _ => congrArg F (Fin.ext (by simp [finProdFinEquiv, row]; omega)))
  have e1 : ∀ G : Fin 16384 → EReal, ∑ b, G b = ∑ x : Fin 4 × Fin 4096, G (blk x.1 x.2) := fun G =>
    (Equiv.sum_comp (finProdFinEquiv (m := 4) (n := 4096)) G).symm.trans
      (Finset.sum_congr rfl fun x _ => congrArg G (Fin.ext (by simp [finProdFinEquiv, blk]; omega)))
  rw [e2, Fintype.sum_prod_type, e1, Fintype.sum_prod_type]
  refine Finset.sum_congr rfl fun t _ => ?_
  unfold psum
  rw [← Finset.sum_add_distrib]
  exact Finset.sum_congr rfl fun r _ => (Fin.sum_univ_two fun p => F (row p (blk t r))).symm

/-! ## The kernel's normalisation -/

/-- A column's mean from its four block sums. -/
def kmean (S : Fin 4 → EReal) : EReal := Ideal.div (∑ t, S t) (Ideal.ofBits .f32 0x47000000#32)

/-- A column's reciprocal deviation from its block sums and block sums of squares. -/
def kinv (S Q : Fin 4 → EReal) : EReal :=
  Ideal.rsqrt (Ideal.div (∑ t, Q t) (Ideal.ofBits .f32 0x47000000#32) - kmean S * kmean S + Ideal.ofBits .f32 0x3727C5AC#32)

/-- An entry normalised the kernel's way. -/
def knorm (S Q : Fin 4 → EReal) (x : EReal) : EReal := (x - kmean S) * kinv S Q

/-! ## The reference's normalisation -/

/-- A column's mean. -/
def rmean (f : Fin 32768 → EReal) : EReal := Ideal.div (∑ r, f r) (Ideal.ofBits .f32 0x47000000#32)

/-- A column's mean squared deviation. -/
def rvar (f : Fin 32768 → EReal) : EReal :=
  Ideal.div (∑ r, (f r - rmean f) * (f r - rmean f)) (Ideal.ofBits .f32 0x47000000#32)

/-- A column's entry normalised the reference's way. -/
def rnorm (f : Fin 32768 → EReal) (r : Fin 32768) : EReal :=
  Ideal.div (f r - rmean f) (Ideal.sqrt (rvar f + Ideal.ofBits .f32 0x3727C5AC#32))

/-- Dividing two real numbers, the divisor not zero. -/
theorem div_real (x y : ℝ) (hy : y ≠ 0) : Ideal.div (x : EReal) (y : EReal) = ((x / y : ℝ) : EReal) := by
  rw [Ideal.div_coe hy, ← EReal.coe_mul]; congr 1; ring

/-- The mean square less the squared mean is the mean squared deviation. -/
theorem variance (φ : Fin 32768 → ℝ) :
    (∑ r, φ r * φ r) / 32768 - (∑ r, φ r) / 32768 * ((∑ r, φ r) / 32768)
      = (∑ r, (φ r - (∑ r, φ r) / 32768) * (φ r - (∑ r, φ r) / 32768)) / 32768 := by
  generalize hS : ∑ r, φ r = S
  have : ∑ r, (φ r - S / 32768) * (φ r - S / 32768) = (∑ r, φ r * φ r) - 2 * (S / 32768) * S + 32768 * (S / 32768 * (S / 32768)) := by
    have h : ∀ r, (φ r - S / 32768) * (φ r - S / 32768) = φ r * φ r - 2 * (S / 32768) * φ r + S / 32768 * (S / 32768) :=
      fun r => by ring
    rw [Finset.sum_congr rfl fun r _ => h r, Finset.sum_add_distrib, Finset.sum_sub_distrib, ← Finset.mul_sum, hS,
      Finset.sum_const, Finset.card_univ, Fintype.card_fin]
    simp
  rw [this]; ring

/-- THE TWO NORMALISATIONS AGREE on a column of real numbers, and the normalised entries are real. -/
theorem norm_eq (f : Fin 32768 → EReal) (hf : ∀ r, IsReal (f r)) (r : Fin 32768) :
    knorm (psum fun p b => f (row p b)) (psum fun p b => f (row p b) * f (row p b)) (f r) = rnorm f r
      ∧ IsReal (rnorm f r) := by
  choose φ hφ using hf
  obtain ⟨ε, hε, hεe⟩ := Consts.eps
  have hS : ∑ r, f r = ((∑ r, φ r : ℝ) : EReal) := by
    rw [← coe_sum]; exact Finset.sum_congr rfl fun r _ => hφ r
  have hQ : ∑ r, f r * f r = ((∑ r, φ r * φ r : ℝ) : EReal) := by
    rw [← coe_sum]; exact Finset.sum_congr rfl fun r _ => by rw [hφ r, EReal.coe_mul]
  have h0 : (32768 : ℝ) ≠ 0 := by norm_num
  have hvar := variance φ
  have hnn : 0 ≤ (∑ r, (φ r - (∑ r, φ r) / 32768) * (φ r - (∑ r, φ r) / 32768)) / 32768 :=
    div_nonneg (Finset.sum_nonneg fun r _ => mul_self_nonneg _) (by norm_num)
  have hD : ∑ r, (f r - ((((∑ r, φ r) / 32768 : ℝ)) : EReal)) * (f r - (((∑ r, φ r) / 32768 : ℝ) : EReal))
      = ((∑ r, (φ r - (∑ r, φ r) / 32768) * (φ r - (∑ r, φ r) / 32768) : ℝ) : EReal) := by
    rw [← coe_sum]
    exact Finset.sum_congr rfl fun r _ => by rw [hφ r, ← EReal.coe_sub, ← EReal.coe_mul]
  generalize (∑ r, (φ r - (∑ r, φ r) / 32768) * (φ r - (∑ r, φ r) / 32768)) = D at hvar hnn hD
  generalize (∑ r, φ r * φ r) = Q at hvar hQ
  generalize (∑ r, φ r) = S at hvar hS hD
  have hm : rmean f = ((S / 32768 : ℝ) : EReal) := by
    unfold rmean; rw [hS, Consts.rows, div_real _ _ h0]
  have hk : kmean (psum fun p b => f (row p b)) = ((S / 32768 : ℝ) : EReal) := by
    unfold kmean; rw [sum_psum f, hS, Consts.rows, div_real _ _ h0]
  have hv : rvar f = ((D / 32768 : ℝ) : EReal) := by
    unfold rvar; rw [hm, hD, Consts.rows, div_real _ _ h0]
  have hi : kinv (psum fun p b => f (row p b)) (psum fun p b => f (row p b) * f (row p b))
      = Ideal.rsqrt ((D / 32768 + ε : ℝ) : EReal) := by
    unfold kinv
    rw [sum_psum fun r => f r * f r, hQ, hk, Consts.rows, div_real _ _ h0, hεe, ← EReal.coe_mul, ← EReal.coe_sub,
      ← EReal.coe_add, hvar]
  unfold knorm rnorm
  rw [hi, hk, hm, hv, hεe, hφ r, ← EReal.coe_add, ← EReal.coe_sub]
  have hp : 0 < D / 32768 + ε := by linarith
  rw [Ideal.rsqrt_coe, if_neg (not_lt.2 hp.le), if_neg hp.ne', Ideal.sqrt_coe, if_neg (not_lt.2 hp.le),
    div_real _ _ (Real.sqrt_pos.2 hp).ne', ← EReal.coe_mul, div_eq_mul_inv]
  exact ⟨rfl, _, rfl⟩

end Cert.Alg

end
-- ==== Proof.Vec.lean ====
/- The vector shapes the kernel's three calls are made of, each read at an index, for any extents: an affine layer, a
   column's sum over two blocks kept as a 1 × 1 × C row, a column's sum over four such rows, a row's sum and a row's
   maximum kept as a column, and the indicator of the action taken. -/
module

public import proofs.«01_k».proof.Proof.Norm
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.Vect

open Idealize.ShloMosaic Idealize.ShloMosaic.ValueIdx Cert.Alg

/-- A product into a zero accumulator. -/
theorem product {M K N : ℕ} {φ₁ φ₂ : FTy} (p : Option ContractPrecision) (x : FVec Ideal ⟨2, ![M, K]⟩ φ₁)
    (w : FVec Ideal ⟨2, ![K, N]⟩ φ₂) (r : Fin M) (j : Fin N) :
    matmul (DotDims.plain M K N) p x w (constant ⟨2, ![M, N]⟩ .f32 0x00000000#32) (ix2 r j)
      = ∑ k : Fin K, x (ix2 r k) * w (ix2 k j) := by
  refine (Ideal.matmul_plain_apply p x w _ r j).trans ?_
  show Ideal.ofBits .f32 0x00000000#32 + _ = _
  rw [Ideal.ofBits_zero_f32, zero_add]

/-- A bias row repeated down the rows. -/
theorem bias {M N : ℕ} (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (r : Fin M) (j : Fin N) :
    broadcastTo ⟨2, ![M, N]⟩ (shapeCast ⟨2, ![1, N]⟩ b hc) hb (ix2 r j) = b (ix2 0 j) := by
  rw [broadcastTo_1b_ab_apply, shapeCast_self]

/-- A column repeated across the columns. -/
theorem across {α : Type} {M N : ℕ} (x : (⟨2, ![M, 1]⟩ : Shape).Idx → α) (h : (⟨2, ![M, 1]⟩ : Shape).Broadcasts ⟨2, ![M, N]⟩)
    (r : Fin M) (j : Fin N) : broadcastTo ⟨2, ![M, N]⟩ x h (ix2 r j) = x (ix2 r 0) := by
  refine broadcastTo_apply x h (ix2 r j) (ix2 r 0) fun a => ?_
  match a with
  | ⟨0, _⟩ =>
    show r.val = if M = 1 then 0 else r.val
    split_ifs with h1
    · have := r.isLt; omega
    · rfl
  | ⟨1, _⟩ => rfl

/-- A column's sum. -/
theorem colsum {M N : ℕ} (x : FVec Ideal ⟨2, ![M, N]⟩ .f32) (h : (⟨2, ![M, N]⟩ : Shape).Reduces [0] ⟨1, ![N]⟩)
    (hφ : FKind.Formats .f32) (ha : (0x00000000#32 : BitVec FTy.f32.bits) = FKind.add.neutral .f32 hφ) (j : Fin N) :
    multiReduction .add [0] ⟨1, ![N]⟩ x 0x00000000#32 h hφ ha (ix1 j) = ∑ r : Fin M, x (ix2 r j) := by
  refine (Ideal.multiReduction_add_single x _ h hφ ha (ix1 j)).trans (Finset.sum_congr rfl fun k _ => congrArg x ?_)
  funext a; apply Fin.ext
  match a with
  | ⟨0, _⟩ => rfl
  | ⟨1, _⟩ => rfl

/-- A row's sum. -/
theorem rowsum {M N : ℕ} (x : FVec Ideal ⟨2, ![M, N]⟩ .f32) (h : (⟨2, ![M, N]⟩ : Shape).Reduces [1] ⟨1, ![M]⟩)
    (hφ : FKind.Formats .f32) (ha : (0x00000000#32 : BitVec FTy.f32.bits) = FKind.add.neutral .f32 hφ)
    (hc : (⟨1, ![M]⟩ : Shape).ShapeCasts ⟨2, ![M, 1]⟩) (r : Fin M) (u : Fin 1) :
    shapeCast ⟨2, ![M, 1]⟩ (multiReduction .add [1] ⟨1, ![M]⟩ x 0x00000000#32 h hφ ha) hc (ix2 r u)
      = ∑ k : Fin N, x (ix2 r k) := by
  rw [shapeCast_a_a1_apply]
  refine (Ideal.multiReduction_add_single x _ h hφ ha (ix1 r)).trans (Finset.sum_congr rfl fun k _ => congrArg x ?_)
  funext a; apply Fin.ext
  match a with
  | ⟨0, _⟩ => rfl
  | ⟨1, _⟩ => rfl

/-- A row's maximum. -/
theorem rowmax {M N : ℕ} (x : FVec Ideal ⟨2, ![M, N]⟩ .f32) (h : (⟨2, ![M, N]⟩ : Shape).Reduces [1] ⟨1, ![M]⟩)
    (hφ : FKind.Formats .f32) (ha : (0xFF800000#32 : BitVec FTy.f32.bits) = FKind.maximumf.neutral .f32 hφ) (r : Fin M) :
    multiReduction .maximumf [1] ⟨1, ![M]⟩ x 0xFF800000#32 h hφ ha (ix1 r) = rowMax fun k => x (ix2 r k) := by
  refine (Ideal.multiReduction_maximumf_single x _ h hφ ha (ix1 r)).trans ?_
  unfold rowMax
  have e : (x ∘ h.lift (ix1 r)) = fun k => x (ix2 r k) := funext fun k => congrArg x (by
    funext a; apply Fin.ext
    match a with
    | ⟨0, _⟩ => rfl
    | ⟨1, _⟩ => rfl)
  rw [e]
  exact congrArg (fun z => Finset.univ.fold max z fun k => x (ix2 r k)) Consts.neg_inf

/-- The two players' column sums of a block, added and kept as a 1 × 1 × C row. -/
theorem pairsum {M N : ℕ} (x y : FVec Ideal ⟨2, ![M, N]⟩ .f32) (h : (⟨2, ![M, N]⟩ : Shape).Reduces [0] ⟨1, ![N]⟩)
    (hφ : FKind.Formats .f32) (ha : (0x00000000#32 : BitVec FTy.f32.bits) = FKind.add.neutral .f32 hφ)
    (hc : (⟨1, ![N]⟩ : Shape).ShapeCasts ⟨2, ![1, N]⟩) (hc' : (⟨2, ![1, N]⟩ : Shape).ShapeCasts ⟨3, ![1, 1, N]⟩)
    (u v : Fin 1) (j : Fin N) :
    shapeCast ⟨3, ![1, 1, N]⟩ (addf (shapeCast ⟨2, ![1, N]⟩ (multiReduction .add [0] ⟨1, ![N]⟩ x 0x00000000#32 h hφ ha) hc)
      (shapeCast ⟨2, ![1, N]⟩ (multiReduction .add [0] ⟨1, ![N]⟩ y 0x00000000#32 h hφ ha) hc)) hc' (ix3 u v j)
      = (∑ r : Fin M, x (ix2 r j)) + ∑ r : Fin M, y (ix2 r j) := by
  rw [shapeCast_ab_1ab_apply]
  refine congrArg₂ (· + ·) ?_ ?_ <;> rw [shapeCast_a_1a_apply, colsum]

/-- The sum of the four blocks' rows. -/
theorem blocksum {N : ℕ} (x : FVec Ideal ⟨3, ![4, 1, N]⟩ .f32) (h : (⟨3, ![4, 1, N]⟩ : Shape).Reduces [0] ⟨2, ![1, N]⟩)
    (hφ : FKind.Formats .f32) (ha : (0x00000000#32 : BitVec FTy.f32.bits) = FKind.add.neutral .f32 hφ)
    (hc : (⟨3, ![4, 1, N]⟩ : Shape).ShapeCasts ⟨3, ![4, 1, N]⟩) (u : Fin 1) (j : Fin N) :
    multiReduction .add [0] ⟨2, ![1, N]⟩ (shapeCast ⟨3, ![4, 1, N]⟩ x hc) 0x00000000#32 h hφ ha (ix2 u j)
      = ∑ t : Fin 4, x (ix3 t 0 j) := by
  rw [shapeCast_self]
  refine (Ideal.multiReduction_add_single x _ h hφ ha (ix2 u j)).trans (Finset.sum_congr rfl fun k _ => congrArg x ?_)
  funext a; apply Fin.ext
  match a with
  | ⟨0, _⟩ => rfl
  | ⟨1, _⟩ => exact congrArg Fin.val (Subsingleton.elim u 0)
  | ⟨2, _⟩ => rfl

/-- A column's statistics from the four blocks' rows, at a column. -/
def stat {N : ℕ} (S : FVec Ideal ⟨3, ![4, 1, N]⟩ .f32) (j : Fin N) (t : Fin 4) : EReal := S (ix3 t 0 j)

/-- A block less its columns' means, times their reciprocal deviations: normalised. -/
theorem normalised {M N : ℕ} (S Q : FVec Ideal ⟨3, ![4, 1, N]⟩ .f32) (G : FVec Ideal ⟨2, ![M, N]⟩ .bf16)
    (m v : FVec Ideal ⟨2, ![1, N]⟩ .f32) (hm : ∀ j, m (ix2 0 j) = kmean (stat S j)) (hv : ∀ j, v (ix2 0 j) = kinv (stat S j) (stat Q j))
    (hc : (⟨2, ![M, N]⟩ : Shape).ShapeCasts ⟨2, ![M, N]⟩) (hb : (⟨2, ![1, N]⟩ : Shape).Broadcasts ⟨2, ![M, N]⟩)
    (hlt : FTy.bf16.bits < FTy.f32.bits) (r : Fin M) (j : Fin N) :
    mulf (subf (extf .f32 (shapeCast ⟨2, ![M, N]⟩ G hc) hlt) (broadcastTo ⟨2, ![M, N]⟩ m hb)) (broadcastTo ⟨2, ![M, N]⟩ v hb) (ix2 r j)
      = knorm (stat S j) (stat Q j) (G (ix2 r j)) := by
  unfold knorm
  rw [shapeCast_self]
  exact congrArg₂ (· * ·) (congrArg (G (ix2 r j) - ·) ((broadcastTo_1b_ab_apply m hb r j).trans (hm j)))
    ((broadcastTo_1b_ab_apply v hb r j).trans (hv j))

/-- The indicator of the action taken, as the kernel computes it from the column numbers. -/
theorem indicator (a b : BitVec 32) :
    FloatOps.sitofp (F := Ideal) .f32 ((IntOp.cmpi .eq a b).setWidth 32) = if a = b then 1 else 0 := by
  show (((_ : BitVec 32).toInt : ℝ) : EReal) = _
  by_cases h : a = b
  · subst h; rw [if_pos rfl]; simp [IntOp.cmpi]
  · have hb : (a == b) = false := beq_eq_false_iff_ne.2 h
    rw [if_neg h]; simp [IntOp.cmpi, hb]

end Cert.Vect

end
-- ==== Proof.First.lean ====
/- THE FIRST CALL read at ideal values: from the two 16384 × 256 input arrays (both players side by side), the first
   layer's weights and its bias row, it leaves each player's activations and, per row block, the column sums of the
   activations and of their squares. -/
module

public import proofs.«01_k».proof.Proof.Vec
public import proofs.«01_k».proof.Proof.Gen.KernelIdeal.Frame
public import Idealize.ShloMosaic.Lib.Pipeline.ValueKit

@[expose] public section

set_option maxRecDepth 16384

noncomputable section

namespace Cert.KernelIdeal.First

open Idealize.ShloMosaic hiding ix1 ix2 ix3 eq_ix1 eq_ix2 eq_ix3
open Idealize.ShloMosaic.TcCoe Idealize.ShloMosaic.ValueIdx Idealize.SL.Sem
open Idealize.ShloMosaic.Pipeline (Dat)
open Cert.KernelIdeal Cert.KernelIdeal.Gen Cert.Alg Cert.Vect

/-- Two 128-wide blocks side by side, a row read at a column. -/
def beside (x y : FVec Ideal S4096x128 .f32) (r : Fin 4096) (k : Fin 256) : EReal :=
  if h : k.val < 128 then x (ix2 r ⟨k.val, h⟩) else y (ix2 r ⟨k.val - 128, by have := k.isLt; omega⟩)

/-- The concatenation of two blocks is that. -/
theorem concat_apply (x y : FVec Ideal S4096x128 .f32) (r : Fin 4096) (k : Fin 256) :
    concatenate S4096x256 1 [⟨S4096x128, x⟩, ⟨S4096x128, y⟩] concatenates_S4096x128_S4096x128_S4096x256_d1 (ix2 r k) = beside x y r k := by
  unfold beside
  split_ifs with h
  · refine concatenate_pair_apply_left 1 x y _ (ix2 r k) rfl (ix2 r ⟨k.val, h⟩) fun b => ?_
    match b with
    | ⟨0, _⟩ => rfl
    | ⟨1, _⟩ => rfl
  · refine concatenate_pair_apply_right 1 x y _ (ix2 r k) rfl rfl (ix2 r ⟨k.val - 128, by have := k.isLt; omega⟩) (fun b hb => ?_) ?_
    · match b with
      | ⟨0, _⟩ => rfl
      | ⟨1, _⟩ => exact absurd rfl hb
    · show k.val - 128 + 128 = k.val
      omega

/-- The pre-activation of a block. -/
theorem pre_apply (x y : FVec Ideal S4096x128 .f32) (w : FVec Ideal S256x512 .f32) (b : FVec Ideal S1x512 .f32)
    (r : Fin 4096) (j : Fin 512) :
    k0_pay7 (F := Ideal) x y w b (ix2 r j) = lin (beside x y r) (fun k j => w (ix2 k j)) (fun j => b (ix2 0 j)) j := by
  unfold k0_pay7 lin
  refine congrArg₂ (· + ·) ((product none _ w r j).trans (Finset.sum_congr rfl fun k _ => ?_)) (bias b _ _ r j)
  rw [shapeCast_self, shapeCast_self, concat_apply]

/-- The activations of a block, -/
theorem act_apply (x y : FVec Ideal S4096x128 .f32) (w : FVec Ideal S256x512 .f32) (b : FVec Ideal S1x512 .f32) (i : S4096x512.Idx) :
    k0_pay6 (F := Ideal) x y w b i = gelu (k0_pay7 (F := Ideal) x y w b i) := rfl

/-- spelt the second way for the second player. -/
theorem act_apply' (x y : FVec Ideal S4096x128 .f32) (w : FVec Ideal S256x512 .f32) (b : FVec Ideal S1x512 .f32) (i : S4096x512.Idx) :
    k0_pay1 (F := Ideal) (k0_pay7 x y w b) (k0_pay8 x y w b) i = gelu (k0_pay7 (F := Ideal) x y w b i) := rfl

variable (V : (c : Dev nD) → (b : Ref sig .tc) → Buf (Elt Ideal) ((c : Thread nD τ).loc b))

/-- Player `p`'s 256 inputs of batch element `b`, from the two input arrays. -/
def input (A B : FVec Ideal S16384x256 .f32) (p : Fin 2) (b : Fin 16384) (k : Fin 256) : EReal :=
  if h : k.val < 128 then A (ix2 b ⟨128 * p.val + k.val, by have := p.isLt; omega⟩)
  else B (ix2 b ⟨128 * p.val + (k.val - 128), by have := p.isLt; have := k.isLt; omega⟩)

/-- Player `p`'s activation of batch element `b` in column `j`. -/
def g1 (c : Dev nD) (p : Fin 2) (b : Fin 16384) (j : Fin 512) : EReal :=
  gelu (lin (input (V c main_v0) (V c main_v1) p b)
    (fun k j => (V c main_arg2 : FVec Ideal S256x512 .f32) (ix2 k j)) (fun j => (V c main_v5 : FVec Ideal S1x512 .f32) (ix2 0 j)) j)

/-! ## The windows' blocks -/

/-- The row-block windows are at block `t`, the weights' at the whole array. -/
theorem idx_0 : ∀ t : Fin cfg0.N, win0_0.index t = ![t.val, 0] := by decide +kernel
/-- (The beliefs.) -/
theorem idx_1 : ∀ t : Fin cfg0.N, win0_1.index t = ![t.val, 0] := by decide +kernel
/-- (The weights.) -/
theorem idx_2 : ∀ t : Fin cfg0.N, win0_2.index t = ![0, 0] := by decide +kernel
/-- (The bias.) -/
theorem idx_3 : ∀ t : Fin cfg0.N, win0_3.index t = ![0, 0] := by decide +kernel
/-- (Player 0's activations.) -/
theorem idx_4 : ∀ t : Fin cfg0.N, win0_4.index t = ![t.val, 0] := by decide +kernel
/-- (Player 1's activations.) -/
theorem idx_5 : ∀ t : Fin cfg0.N, win0_5.index t = ![t.val, 0] := by decide +kernel
/-- (The sums.) -/
theorem idx_6 : ∀ t : Fin cfg0.N, win0_6.index t = ![t.val, 0, 0] := by decide +kernel
/-- (The sums of squares.) -/
theorem idx_7 : ∀ t : Fin cfg0.N, win0_7.index t = ![t.val, 0, 0] := by decide +kernel

/-- The block number of a grid point. -/
abbrev pt (t : Fin cfg0.N) : Fin 4 := t.cast N_0

/-- A block of the states, read at a row and a column, -/
theorem in_0 (c : Dev nD) (t : Fin cfg0.N) (r : Fin 4096) (k : Fin 256) :
    (iblk0 V c 0 t : FVec Ideal S4096x256 .f32) (ix2 r k) = (V c main_v0 : FVec Ideal S16384x256 .f32) (ix2 (blk (pt t) r) k) := by
  blk_simp [iblk0]
  refine congrArg (V c main_v0) ?_
  blk_ext [idx_0]
  show t.val * 4096 + r.val = 4096 * t.val + r.val
  omega
/-- of the beliefs, -/
theorem in_1 (c : Dev nD) (t : Fin cfg0.N) (r : Fin 4096) (k : Fin 256) :
    (iblk0 V c 1 t : FVec Ideal S4096x256 .f32) (ix2 r k) = (V c main_v1 : FVec Ideal S16384x256 .f32) (ix2 (blk (pt t) r) k) := by
  blk_simp [iblk0]
  refine congrArg (V c main_v1) ?_
  blk_ext [idx_1]
  show t.val * 4096 + r.val = 4096 * t.val + r.val
  omega
/-- of the weights, -/
theorem in_2 (c : Dev nD) (t : Fin cfg0.N) : (iblk0 V c 2 t : FVec Ideal S256x512 .f32) = V c main_arg2 := by
  funext y
  blk_simp [iblk0]
  refine congrArg (V c main_arg2) ?_
  blk_ext [idx_2]
/-- and of the bias row. -/
theorem in_3 (c : Dev nD) (t : Fin cfg0.N) : (iblk0 V c 3 t : FVec Ideal S1x512 .f32) = V c main_v5 := by
  funext y
  blk_simp [iblk0]
  refine congrArg (V c main_v5) ?_
  blk_ext [idx_3]

/-- Player `p`'s columns of two blocks, side by side, are the player's inputs. -/
theorem beside_eq (A B : FVec Ideal S16384x256 .f32) (x y : FVec Ideal S4096x256 .f32) (t : Fin 4)
    (hx : ∀ r k, x (ix2 r k) = A (ix2 (blk t r) k)) (hy : ∀ r k, y (ix2 r k) = B (ix2 (blk t r) k))
    (p : Fin 2) (x' y' : FVec Ideal S4096x128 .f32)
    (hx' : ∀ r (k : Fin 128), x' (ix2 r k) = x (ix2 r ⟨128 * p.val + k.val, by have := p.isLt; omega⟩))
    (hy' : ∀ r (k : Fin 128), y' (ix2 r k) = y (ix2 r ⟨128 * p.val + k.val, by have := p.isLt; omega⟩)) (r : Fin 4096) :
    beside x' y' r = input A B p (blk t r) := by
  funext k
  unfold beside input
  split_ifs with h
  · rw [hx', hx]
  · rw [hy', hy]

theorem hz2 : (![0, 0] : Fin 2 → Nat) = fun _ => 0 := funext fun a => by fin_cases a <;> rfl

/-- A load of one player's columns. -/
theorem ld_cols (x : Vec Ideal S4096x256 .f32) (o : ℕ) (p : Fin 2) (ho : o = 128 * p.val) (inb) (r : Fin 4096) (k : Fin 128) :
    View.ld x (Rect.unit (s := S4096x256) ![0, o] S4096x128.size inb) (ix2 r k)
      = x (ix2 r ⟨128 * p.val + k.val, by have := p.isLt; omega⟩) := by
  subst ho
  refine View.ld_unit_apply_of x _ _ inb (ix2 r k) _ fun a => ?_
  match a with
  | ⟨0, _⟩ => exact (Nat.zero_add _).symm
  | ⟨1, _⟩ => rfl

/-- Player 0's activations of block `t`, -/
theorem block_0 (c : Dev nD) (t : Fin cfg0.N) (r : Fin 4096) (j : Fin 512) :
    k0_pay9 (iblk0 V c 0 t) (iblk0 V c 1 t) (iblk0 V c 2 t) (iblk0 V c 3 t) (ix2 r j) = g1 V c 0 (blk (pt t) r) j := by
  unfold k0_pay9 g1
  rw [act_apply, pre_apply, beside_eq (V c main_v0) (V c main_v1) _ _ (pt t) (in_0 V c t) (in_1 V c t) 0 _ _
    (ld_cols _ 0 0 rfl _) (ld_cols _ 0 0 rfl _), View.ld_unit_zero hz2, View.ld_unit_zero hz2, in_2, in_3]
/-- and player 1's. -/
theorem block_1 (c : Dev nD) (t : Fin cfg0.N) (r : Fin 4096) (j : Fin 512) :
    k0_pay1 (k0_pay10 (iblk0 V c 0 t) (iblk0 V c 1 t) (iblk0 V c 2 t) (iblk0 V c 3 t))
      (k0_pay11 (iblk0 V c 0 t) (iblk0 V c 1 t) (iblk0 V c 2 t) (iblk0 V c 3 t)) (ix2 r j) = g1 V c 1 (blk (pt t) r) j := by
  unfold k0_pay10 k0_pay11 g1
  rw [act_apply', pre_apply, beside_eq (V c main_v0) (V c main_v1) _ _ (pt t) (in_0 V c t) (in_1 V c t) 1 _ _
    (ld_cols _ 128 1 rfl _) (ld_cols _ 128 1 rfl _), View.ld_unit_zero hz2, View.ld_unit_zero hz2, in_2, in_3]

/-! ## What the call leaves -/

/-- Player 0's activations, -/
theorem final4 (c : Dev nD) : (dat0 V c).arrAt 4 cfg0.N = fun i : S16384x512.Idx => g1 V c 0 (i 0) (i 1) := by
  refine (dat0 V c).arrAt_eq_of_covers 4 _ (by decide +kernel) fun t hf y => ?_
  blk_simp
  rw [after0_4]
  frame_out
  obtain ⟨r, j, rfl⟩ : ∃ (r : Fin 4096) (j : Fin 512), y = ix2 r j := ⟨y 0, y 1, eq_ix2 y⟩
  refine (block_0 V c t r j).trans (congrArg₂ (g1 V c 0) (Fin.ext ?_) (Fin.ext ?_))
  · blk_simp [idx_4]
    show 4096 * t.val + r.val = t.val * 4096 + r.val
    omega
  · blk_simp [idx_4]

/-- player 1's, -/
theorem final5 (c : Dev nD) : (dat0 V c).arrAt 5 cfg0.N = fun i : S16384x512.Idx => g1 V c 1 (i 0) (i 1) := by
  refine (dat0 V c).arrAt_eq_of_covers 5 _ (by decide +kernel) fun t hf y => ?_
  blk_simp
  rw [after0_5]
  frame_out
  obtain ⟨r, j, rfl⟩ : ∃ (r : Fin 4096) (j : Fin 512), y = ix2 r j := ⟨y 0, y 1, eq_ix2 y⟩
  refine (block_1 V c t r j).trans (congrArg₂ (g1 V c 1) (Fin.ext ?_) (Fin.ext ?_))
  · blk_simp [idx_5]
    show 4096 * t.val + r.val = t.val * 4096 + r.val
    omega
  · blk_simp [idx_5]

/-- each block's column sums, -/
theorem final6 (c : Dev nD) :
    (dat0 V c).arrAt 6 cfg0.N = fun i : S4x1x512.Idx => psum (fun p b => g1 V c p b (i 2)) (i 0) := by
  refine (dat0 V c).arrAt_eq_of_covers 6 _ (by decide +kernel) fun t hf y => ?_
  blk_simp
  rw [after0_6]
  frame_out
  obtain ⟨u, v, j, rfl⟩ : ∃ (u v : Fin 1) (j : Fin 512), y = ix3 u v j := ⟨y 0, y 1, y 2, eq_ix3 y⟩
  refine ((pairsum _ _ _ _ _ _ _ u v j).trans (congrArg₂ (· + ·) (Finset.sum_congr rfl fun r _ => block_0 V c t r j)
    (Finset.sum_congr rfl fun r _ => block_1 V c t r j))).trans ?_
  refine congrArg₂ (fun (t : Fin 4) (j : Fin 512) => psum (fun p b => g1 V c p b j) t) (Fin.ext ?_) (Fin.ext ?_)
  · blk_simp [idx_6]
    rfl
  · blk_simp [idx_6]

/-- and sums of squares. -/
theorem final7 (c : Dev nD) :
    (dat0 V c).arrAt 7 cfg0.N = fun i : S4x1x512.Idx => psum (fun p b => g1 V c p b (i 2) * g1 V c p b (i 2)) (i 0) := by
  refine (dat0 V c).arrAt_eq_of_covers 7 _ (by decide +kernel) fun t hf y => ?_
  blk_simp
  rw [after0_7]
  frame_out
  obtain ⟨u, v, j, rfl⟩ : ∃ (u v : Fin 1) (j : Fin 512), y = ix3 u v j := ⟨y 0, y 1, y 2, eq_ix3 y⟩
  refine ((pairsum _ _ _ _ _ _ _ u v j).trans (congrArg₂ (· + ·)
    (Finset.sum_congr rfl fun r _ => congrArg₂ (· * ·) (block_0 V c t r j) (block_0 V c t r j))
    (Finset.sum_congr rfl fun r _ => congrArg₂ (· * ·) (block_1 V c t r j) (block_1 V c t r j)))).trans ?_
  refine congrArg₂ (fun (t : Fin 4) (j : Fin 512) => psum (fun p b => g1 V c p b j * g1 V c p b j) t) (Fin.ext ?_) (Fin.ext ?_)
  · blk_simp [idx_7]
    rfl
  · blk_simp [idx_7]

end Cert.KernelIdeal.First

end
-- ==== Proof.Second.lean ====
/- THE SECOND CALL read at ideal values: it normalises the first layer's activations by the column sums the first call
   left, applies the second layer, and leaves each player's activations and, per row block, their column sums and the
   column sums of their squares. -/
module

public import proofs.«01_k».proof.Proof.Vec
public import proofs.«01_k».proof.Proof.Gen.KernelIdeal.Frame
public import Idealize.ShloMosaic.Lib.Pipeline.ValueKit

@[expose] public section

set_option maxRecDepth 16384

noncomputable section

namespace Cert.KernelIdeal.Second

open Idealize.ShloMosaic hiding ix1 ix2 ix3 eq_ix1 eq_ix2 eq_ix3
open Idealize.ShloMosaic.TcCoe Idealize.ShloMosaic.ValueIdx Idealize.SL.Sem
open Idealize.ShloMosaic.Pipeline (Dat)
open Cert.KernelIdeal Cert.KernelIdeal.Gen Cert.Alg Cert.Vect

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The payloads -/

/-- The columns' means, -/
theorem mean_apply (S : FVec Ideal S4x1x512 .f32) (j : Fin 512) : k1_pay2 (F := Ideal) S (ix2 0 j) = kmean (stat S j) := by
  unfold k1_pay2 kmean
  exact congrArg (Ideal.div · (Ideal.ofBits .f32 0x47000000#32)) (blocksum S _ _ _ _ 0 j)
/-- their reciprocal deviations. -/
theorem inv_apply (S Q : FVec Ideal S4x1x512 .f32) (j : Fin 512) :
    k1_pay3 (F := Ideal) S Q (ix2 0 j) = kinv (stat S j) (stat Q j) := by
  unfold k1_pay3 kinv
  exact congrArg Ideal.rsqrt (congrArg (· + Ideal.ofBits .f32 0x3727C5AC#32) (congrArg₂ (· - ·)
    (congrArg (Ideal.div · (Ideal.ofBits .f32 0x47000000#32)) (blocksum Q _ _ _ _ 0 j))
    (congrArg₂ (· * ·) (mean_apply S j) (mean_apply S j))))
/-- The second layer's pre-activation of a normalised block: player 0's, -/
theorem pre_0 (S Q : FVec Ideal S4x1x512 .f32) (G : FVec Ideal S4096x512 .bf16) (w : FVec Ideal S512x256 .f32) (b : FVec Ideal S1x256 .f32)
    (r : Fin 4096) (j : Fin 256) :
    k1_pay5 (F := Ideal) S Q G w b (ix2 r j)
      = lin (fun k => knorm (stat S k) (stat Q k) (G (ix2 r k))) (fun k j => w (ix2 k j)) (fun j => b (ix2 0 j)) j := by
  unfold k1_pay5 lin
  refine congrArg₂ (· + ·) ((product none _ w r j).trans (Finset.sum_congr rfl fun k _ => congrArg (· * w (ix2 k j)) ?_)) (bias b _ _ r j)
  exact normalised S Q G _ _ (mean_apply S) (inv_apply S Q) _ _ _ r k
/-- its activation, -/
theorem act_0 (S Q : FVec Ideal S4x1x512 .f32) (G : FVec Ideal S4096x512 .bf16) (w : FVec Ideal S512x256 .f32) (b : FVec Ideal S1x256 .f32)
    (i : S4096x256.Idx) :
    k1_pay8 (F := Ideal) (k1_pay5 S Q G w b) (k1_pay6 S Q G w b) k1_pay7 i = gelu (k1_pay5 (F := Ideal) S Q G w b i) := rfl
/-- and player 1's activation, spelt the second way. -/
theorem act_1 (S Q : FVec Ideal S4x1x512 .f32) (G : FVec Ideal S4096x512 .bf16) (w : FVec Ideal S512x256 .f32) (b : FVec Ideal S1x256 .f32)
    (i : S4096x256.Idx) : k1_pay9 (F := Ideal) (k1_pay4 S Q G) w b i = gelu (k1_pay5 (F := Ideal) S Q G w b i) := rfl

/-- Player `p`'s first-layer activations as the call finds them. -/
def given (c : Dev nD) (p : Fin 2) (b : Fin 16384) (k : Fin 512) : EReal :=
  match p with
  | ⟨0, _⟩ => (V c main_v6_0 : FVec Ideal S16384x512 .bf16) (ix2 b k)
  | ⟨1, _⟩ => (V c main_v6_1 : FVec Ideal S16384x512 .bf16) (ix2 b k)

/-- Player `p`'s second-layer activation of batch element `b` in column `j`. -/
def g2 (c : Dev nD) (p : Fin 2) (b : Fin 16384) (j : Fin 256) : EReal :=
  gelu (lin (fun k => knorm (stat (V c main_v6_2 : FVec Ideal S4x1x512 .f32) k) (stat (V c main_v6_3 : FVec Ideal S4x1x512 .f32) k) (given V c p b k))
    (fun k j => (V c main_arg4 : FVec Ideal S512x256 .f32) (ix2 k j)) (fun j => (V c main_v7 : FVec Ideal S1x256 .f32) (ix2 0 j)) j)

/-! ## The windows' blocks -/

/-- The block number of a grid point. -/
abbrev pt (t : Fin cfg1.N) : Fin 4 := t.cast N_1

/-- Each window's block number at a point: the activations', -/
theorem idx_0 : ∀ t : Fin cfg1.N, win1_0.index t = ![t.val, 0] := by decide +kernel
/-- (player 1's) -/
theorem idx_1 : ∀ t : Fin cfg1.N, win1_1.index t = ![t.val, 0] := by decide +kernel
/-- the sums', -/
theorem idx_2 : ∀ t : Fin cfg1.N, win1_2.index t = ![0, 0, 0] := by decide +kernel
/-- the sums of squares', -/
theorem idx_3 : ∀ t : Fin cfg1.N, win1_3.index t = ![0, 0, 0] := by decide +kernel
/-- the weights', -/
theorem idx_4 : ∀ t : Fin cfg1.N, win1_4.index t = ![0, 0] := by decide +kernel
/-- the bias row's, -/
theorem idx_5 : ∀ t : Fin cfg1.N, win1_5.index t = ![0, 0] := by decide +kernel
/-- the results': player 0's, -/
theorem idx_6 : ∀ t : Fin cfg1.N, win1_6.index t = ![t.val, 0] := by decide +kernel
/-- player 1's, -/
theorem idx_7 : ∀ t : Fin cfg1.N, win1_7.index t = ![t.val, 0] := by decide +kernel
/-- the sums', -/
theorem idx_8 : ∀ t : Fin cfg1.N, win1_8.index t = ![t.val, 0, 0] := by decide +kernel
/-- the sums of squares'. -/
theorem idx_9 : ∀ t : Fin cfg1.N, win1_9.index t = ![t.val, 0, 0] := by decide +kernel

/-- A block of player 0's activations at a row and a column, -/
theorem in_0 (c : Dev nD) (t : Fin cfg1.N) (r : Fin 4096) (k : Fin 512) :
    (iblk1 V c 0 t : Vec Ideal S4096x512 .bf16) (ix2 r k) = (V c main_v6_0 : Vec Ideal S16384x512 .bf16) (ix2 (blk (pt t) r) k) := by
  blk_simp [iblk1]
  refine congrArg (V c main_v6_0) ?_
  blk_ext [idx_0]
  show t.val * 4096 + r.val = 4096 * t.val + r.val
  omega
/-- of player 1's, -/
theorem in_1 (c : Dev nD) (t : Fin cfg1.N) (r : Fin 4096) (k : Fin 512) :
    (iblk1 V c 1 t : Vec Ideal S4096x512 .bf16) (ix2 r k) = (V c main_v6_1 : Vec Ideal S16384x512 .bf16) (ix2 (blk (pt t) r) k) := by
  blk_simp [iblk1]
  refine congrArg (V c main_v6_1) ?_
  blk_ext [idx_1]
  show t.val * 4096 + r.val = 4096 * t.val + r.val
  omega
/-- the sums, whole. -/
theorem in_2 (c : Dev nD) (t : Fin cfg1.N) : (iblk1 V c 2 t : Vec Ideal S4x1x512 .f32) = V c main_v6_2 := by
  funext y
  blk_simp [iblk1]
  refine congrArg (V c main_v6_2) ?_
  blk_ext [idx_2]
/-- the sums of squares, whole. -/
theorem in_3 (c : Dev nD) (t : Fin cfg1.N) : (iblk1 V c 3 t : Vec Ideal S4x1x512 .f32) = V c main_v6_3 := by
  funext y
  blk_simp [iblk1]
  refine congrArg (V c main_v6_3) ?_
  blk_ext [idx_3]
/-- the weights, whole. -/
theorem in_4 (c : Dev nD) (t : Fin cfg1.N) : (iblk1 V c 4 t : Vec Ideal S512x256 .f32) = V c main_arg4 := by
  funext y
  blk_simp [iblk1]
  refine congrArg (V c main_arg4) ?_
  blk_ext [idx_4]
/-- and the bias row, whole. -/
theorem in_5 (c : Dev nD) (t : Fin cfg1.N) : (iblk1 V c 5 t : Vec Ideal S1x256 .f32) = V c main_v7 := by
  funext y
  blk_simp [iblk1]
  refine congrArg (V c main_v7) ?_
  blk_ext [idx_5]

/-- Player 0's activations of block `t`, -/
theorem block_0 (c : Dev nD) (t : Fin cfg1.N) (r : Fin 4096) (j : Fin 256) :
    k1_pay8 (k1_pay14 (iblk1 V c 0 t) (iblk1 V c 1 t) (iblk1 V c 2 t) (iblk1 V c 3 t) (iblk1 V c 4 t) (iblk1 V c 5 t))
      (k1_pay15 (iblk1 V c 0 t) (iblk1 V c 1 t) (iblk1 V c 2 t) (iblk1 V c 3 t) (iblk1 V c 4 t) (iblk1 V c 5 t))
      (k1_pay16 (iblk1 V c 0 t) (iblk1 V c 1 t) (iblk1 V c 2 t) (iblk1 V c 3 t) (iblk1 V c 4 t) (iblk1 V c 5 t)) (ix2 r j)
      = g2 V c 0 (blk (pt t) r) j := by
  unfold k1_pay14 k1_pay15 k1_pay16 g2
  rw [act_0, pre_0, View.ld_unit_zero hz3, View.ld_unit_zero hz3, View.ld_unit_zero hz2, View.ld_unit_zero hz2, View.ld_unit_zero hz2,
    in_2, in_3, in_4, in_5]
  refine congrArg (fun x => gelu (lin x _ _ j)) (funext fun k => ?_)
  rw [in_0]; rfl
/-- and player 1's. -/
theorem block_1 (c : Dev nD) (t : Fin cfg1.N) (r : Fin 4096) (j : Fin 256) :
    k1_pay9 (k1_pay13 (iblk1 V c 0 t) (iblk1 V c 1 t) (iblk1 V c 2 t) (iblk1 V c 3 t) (iblk1 V c 4 t) (iblk1 V c 5 t))
      (View.ld (S := S512x256) (iblk1 V c 4 t) r1_2) (View.ld (S := S1x256) (iblk1 V c 5 t) r1_3) (ix2 r j) = g2 V c 1 (blk (pt t) r) j := by
  unfold k1_pay13 g2
  rw [act_1, pre_0, View.ld_unit_zero hz3, View.ld_unit_zero hz3, View.ld_unit_zero hz2, View.ld_unit_zero hz2, View.ld_unit_zero hz2,
    in_2, in_3, in_4, in_5]
  refine congrArg (fun x => gelu (lin x _ _ j)) (funext fun k => ?_)
  rw [in_1]; rfl

/-! ## What the call leaves -/

/-- Player 0's activations, -/
theorem final6 (c : Dev nD) : (dat1 V c).arrAt 6 cfg1.N = fun i : S16384x256.Idx => g2 V c 0 (i 0) (i 1) := by
  refine (dat1 V c).arrAt_eq_of_covers 6 _ (by decide +kernel) fun t hf y => ?_
  blk_simp
  rw [after1_6]
  unfold out1_6
  rw [View.canon_unit_zero hz2]
  obtain ⟨r, j, rfl⟩ : ∃ (r : Fin 4096) (j : Fin 256), y = ix2 r j := ⟨y 0, y 1, eq_ix2 y⟩
  refine (block_0 V c t r j).trans (congrArg₂ (g2 V c 0) (Fin.ext ?_) (Fin.ext ?_))
  · blk_simp [idx_6]
    show 4096 * t.val + r.val = t.val * 4096 + r.val
    omega
  · blk_simp [idx_6]

/-- player 1's, -/
theorem final7 (c : Dev nD) : (dat1 V c).arrAt 7 cfg1.N = fun i : S16384x256.Idx => g2 V c 1 (i 0) (i 1) := by
  refine (dat1 V c).arrAt_eq_of_covers 7 _ (by decide +kernel) fun t hf y => ?_
  blk_simp
  rw [after1_7]
  unfold out1_7
  rw [View.canon_unit_zero hz2]
  obtain ⟨r, j, rfl⟩ : ∃ (r : Fin 4096) (j : Fin 256), y = ix2 r j := ⟨y 0, y 1, eq_ix2 y⟩
  refine (block_1 V c t r j).trans (congrArg₂ (g2 V c 1) (Fin.ext ?_) (Fin.ext ?_))
  · blk_simp [idx_7]
    show 4096 * t.val + r.val = t.val * 4096 + r.val
    omega
  · blk_simp [idx_7]

/-- each block's column sums, -/
theorem final8 (c : Dev nD) :
    (dat1 V c).arrAt 8 cfg1.N = fun i : S4x1x256.Idx => psum (fun p b => g2 V c p b (i 2)) (i 0) := by
  refine (dat1 V c).arrAt_eq_of_covers 8 _ (by decide +kernel) fun t hf y => ?_
  blk_simp
  rw [after1_8]
  unfold out1_8
  rw [View.canon_unit_zero hz3]
  obtain ⟨u, v, j, rfl⟩ : ∃ (u v : Fin 1) (j : Fin 256), y = ix3 u v j := ⟨y 0, y 1, y 2, eq_ix3 y⟩
  refine ((pairsum _ _ _ _ _ _ _ u v j).trans (congrArg₂ (· + ·) (Finset.sum_congr rfl fun r _ => block_0 V c t r j)
    (Finset.sum_congr rfl fun r _ => block_1 V c t r j))).trans ?_
  refine congrArg₂ (fun (t : Fin 4) (j : Fin 256) => psum (fun p b => g2 V c p b j) t) (Fin.ext ?_) (Fin.ext ?_)
  · blk_simp [idx_8]
    rfl
  · blk_simp [idx_8]

/-- and sums of squares. -/
theorem final9 (c : Dev nD) :
    (dat1 V c).arrAt 9 cfg1.N = fun i : S4x1x256.Idx => psum (fun p b => g2 V c p b (i 2) * g2 V c p b (i 2)) (i 0) := by
  refine (dat1 V c).arrAt_eq_of_covers 9 _ (by decide +kernel) fun t hf y => ?_
  blk_simp
  rw [after1_9]
  unfold out1_9
  rw [View.canon_unit_zero hz3]
  obtain ⟨u, v, j, rfl⟩ : ∃ (u v : Fin 1) (j : Fin 256), y = ix3 u v j := ⟨y 0, y 1, y 2, eq_ix3 y⟩
  refine ((pairsum _ _ _ _ _ _ _ u v j).trans (congrArg₂ (· + ·) (Finset.sum_congr rfl fun r _ => congrArg₂ (· * ·) (block_0 V c t r j) (block_0 V c t r j))
    (Finset.sum_congr rfl fun r _ => congrArg₂ (· * ·) (block_1 V c t r j) (block_1 V c t r j)))).trans ?_
  refine congrArg₂ (fun (t : Fin 4) (j : Fin 256) => psum (fun p b => g2 V c p b j * g2 V c p b j) t) (Fin.ext ?_) (Fin.ext ?_)
  · blk_simp [idx_9]
    rfl
  · blk_simp [idx_9]

end Cert.KernelIdeal.Second

end
-- ==== Proof.Heads.lean ====
/- The two heads' results from a row of logits and from the two players' normalised rows. -/
module

public import proofs.«01_k».proof.Proof.Norm

@[expose] public section

noncomputable section

namespace Cert.Alg

open Idealize.ShloMosaic

/-- The log-softmax of a row of logits. -/
def logp {n : ℕ} (L : Fin n → EReal) (k : Fin n) : EReal := (L k - rowMax L) - Ideal.log (expoSum L)

/-- The log-probability of the action numbered `a`, as the kernel sums it: against the indicator of `a`. -/
def kalp (L : Fin 20 → EReal) (a : BitVec 32) : EReal := ∑ k : Fin 20, logp L k * (if BitVec.ofNat 32 k.val = a then 1 else 0)

/-- The entropy, as the kernel computes it: zero less the sum. -/
def kent (L : Fin 20 → EReal) : EReal :=
  Ideal.ofBits .f32 0x00000000#32 - ∑ k : Fin 20, Ideal.div (expo L k) (expoSum L) * logp L k

/-- The value from the two players' rows, as the kernel computes it: one product per player. -/
def kval {K J : ℕ} (x y : Fin K → EReal) (wa wb : Fin K → Fin J → EReal) (b w : Fin J → EReal) (d : EReal) : EReal :=
  (∑ j, gelu (((∑ k, x k * wa k j) + ∑ k, y k * wb k j) + b j) * w j) + d

/-- An action below 20 picks its own log-probability out of the sum. -/
theorem kalp_eq (L : Fin 20 → EReal) (a : BitVec 32) (k : Fin 20) (h : a = BitVec.ofNat 32 k.val) : kalp L a = logp L k := by
  unfold kalp
  rw [← sum_onehot (logp L) k]
  refine Finset.sum_congr rfl fun i _ => congrArg (logp L i * ·) ?_
  have e : (BitVec.ofNat 32 i.val = a) ↔ i = k := by
    rw [h]
    constructor
    · intro e
      have := congrArg BitVec.toNat e
      simp only [BitVec.toNat_ofNat] at this
      have hi := i.isLt; have hk := k.isLt
      exact Fin.ext (by omega)
    · rintro rfl; rfl
  by_cases hik : i = k
  · rw [if_pos (e.2 hik), if_pos hik]
  · rw [if_neg (fun he => hik (e.1 he)), if_neg hik]

end Cert.Alg

end
-- ==== Proof.Third.lean ====
/- THE THIRD CALL read at ideal values: it normalises the second layer's activations by the column sums the second call
   left and applies the two heads. The actor's head takes player 0's row to 20 logits, whose log-softmax gives the
   log-probability of the action taken and the entropy; the critic's head takes both players' rows to the value. -/
module

public import proofs.«01_k».proof.Proof.Vec
public import proofs.«01_k».proof.Proof.Heads
public import proofs.«01_k».proof.Proof.Gen.KernelIdeal.Frame
public import Idealize.ShloMosaic.Lib.Pipeline.ValueKit

@[expose] public section

set_option maxRecDepth 16384

noncomputable section

namespace Cert.KernelIdeal.Third

open Idealize.ShloMosaic hiding ix1 ix2 ix3 eq_ix1 eq_ix2 eq_ix3
open Idealize.ShloMosaic.TcCoe Idealize.ShloMosaic.ValueIdx Idealize.SL.Sem
open Idealize.ShloMosaic.Pipeline (Dat)
open Cert.KernelIdeal Cert.KernelIdeal.Gen Cert.Alg Cert.Vect

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The payloads -/

/-- The columns' means, -/
theorem mean_apply (S : FVec Ideal S4x1x256 .f32) (j : Fin 256) : k2_pay2 (F := Ideal) S (ix2 0 j) = kmean (stat S j) := by
  unfold k2_pay2 kmean
  exact congrArg (Ideal.div · (Ideal.ofBits .f32 0x47000000#32)) (blocksum S _ _ _ _ 0 j)
/-- their reciprocal deviations, -/
theorem inv_apply (S Q : FVec Ideal S4x1x256 .f32) (j : Fin 256) :
    k2_pay3 (F := Ideal) S Q (ix2 0 j) = kinv (stat S j) (stat Q j) := by
  unfold k2_pay3 kinv
  exact congrArg Ideal.rsqrt (congrArg (· + Ideal.ofBits .f32 0x3727C5AC#32) (congrArg₂ (· - ·)
    (congrArg (Ideal.div · (Ideal.ofBits .f32 0x47000000#32)) (blocksum Q _ _ _ _ 0 j))
    (congrArg₂ (· * ·) (mean_apply S j) (mean_apply S j))))
/-- and a normalised block: player 0's -/
theorem norm_0 (S Q : FVec Ideal S4x1x256 .f32) (G : FVec Ideal S4096x256 .bf16) (r : Fin 4096) (k : Fin 256) :
    k2_pay4 (F := Ideal) S Q G (ix2 r k) = knorm (stat S k) (stat Q k) (G (ix2 r k)) := by
  unfold k2_pay4
  exact normalised S Q G _ _ (mean_apply S) (inv_apply S Q) _ _ _ r k
/-- and player 1's. -/
theorem norm_1 (S Q : FVec Ideal S4x1x256 .f32) (G : FVec Ideal S4096x256 .bf16) (r : Fin 4096) (k : Fin 256) :
    k2_pay5 (F := Ideal) S Q G (ix2 r k) = knorm (stat S k) (stat Q k) (G (ix2 r k)) := by
  unfold k2_pay5
  exact normalised S Q G _ _ (mean_apply S) (inv_apply S Q) _ _ _ r k

/-- The logits of a row, -/
theorem logits_apply (S Q : FVec Ideal S4x1x256 .f32) (G : FVec Ideal S4096x256 .bf16) (w : FVec Ideal S256x20 .f32) (b : FVec Ideal S1x20 .f32) (r : Fin 4096) (k : Fin 20) :
    k2_pay6 (F := Ideal) S Q G w b (ix2 r k)
      = lin (fun k => knorm (stat S k) (stat Q k) (G (ix2 r k))) (fun k j => w (ix2 k j)) (fun j => b (ix2 0 j)) k := by
  unfold k2_pay6 lin
  exact congrArg₂ (· + ·) ((product none _ w r k).trans (Finset.sum_congr rfl fun i _ => congrArg (· * w (ix2 i k)) (norm_0 S Q G r i)))
    (bias b _ _ r k)
/-- their maximum, kept as a column -/
theorem max_apply (S Q : FVec Ideal S4x1x256 .f32) (G : FVec Ideal S4096x256 .bf16) (w : FVec Ideal S256x20 .f32) (b : FVec Ideal S1x20 .f32) (r : Fin 4096) :
    k2_pay7 (F := Ideal) S Q G w b (ix2 r 0) = rowMax fun k => k2_pay6 (F := Ideal) S Q G w b (ix2 r k) := by
  unfold k2_pay7
  exact (shapeCast_a_a1_apply _ _ r 0).trans (rowmax _ _ _ _ r)
/-- and repeated along the row. -/
theorem maxRow_apply (S Q : FVec Ideal S4x1x256 .f32) (G : FVec Ideal S4096x256 .bf16) (w : FVec Ideal S256x20 .f32) (b : FVec Ideal S1x20 .f32) (r : Fin 4096) (k : Fin 20) :
    k2_pay8 (F := Ideal) S Q G w b (ix2 r k) = rowMax fun k => k2_pay6 (F := Ideal) S Q G w b (ix2 r k) := by
  unfold k2_pay8
  exact (across _ _ r k).trans (max_apply S Q G w b r)

section Softmax

variable (L : FVec Ideal S4096x20 .f32) (m : FVec Ideal S4096x1 .f32) (mr : FVec Ideal S4096x20 .f32)
  (hm : ∀ r, m (ix2 r 0) = rowMax fun k => L (ix2 r k)) (hmr : ∀ r k, mr (ix2 r k) = rowMax fun k => L (ix2 r k))

/-- The exponentials of the logits less their maximum, -/
theorem exp_apply (hmr : ∀ r k, mr (ix2 r k) = rowMax fun k => L (ix2 r k)) (r : Fin 4096) (k : Fin 20) :
    k2_pay9 (F := Ideal) L mr (ix2 r k) = expo (fun k => L (ix2 r k)) k :=
  congrArg (fun z => Ideal.exp (L (ix2 r k) - z)) (hmr r k)
/-- their sum, -/
theorem expSum_apply (hmr : ∀ r k, mr (ix2 r k) = rowMax fun k => L (ix2 r k)) (r : Fin 4096) :
    k2_pay10 (F := Ideal) L mr (ix2 r 0) = expoSum fun k => L (ix2 r k) := by
  unfold k2_pay10 expoSum
  exact (rowsum _ _ _ _ _ r 0).trans (Finset.sum_congr rfl fun k _ => exp_apply L mr hmr r k)
/-- the log-softmax, -/
theorem logp_apply (hm : ∀ r, m (ix2 r 0) = rowMax fun k => L (ix2 r k)) (hmr : ∀ r k, mr (ix2 r k) = rowMax fun k => L (ix2 r k))
    (r : Fin 4096) (k : Fin 20) : k2_pay11 (F := Ideal) L m mr (ix2 r k) = logp (fun k => L (ix2 r k)) k := by
  unfold k2_pay11 logp
  exact congrArg₂ (· - ·) (congrArg (L (ix2 r k) - ·) ((across m _ r k).trans (hm r)))
    ((across _ _ r k).trans (congrArg Ideal.log (expSum_apply L mr hmr r)))
/-- the entropy -/
theorem ent_apply (hm : ∀ r, m (ix2 r 0) = rowMax fun k => L (ix2 r k)) (hmr : ∀ r k, mr (ix2 r k) = rowMax fun k => L (ix2 r k))
    (r : Fin 4096) (u : Fin 1) : k2_pay12 (F := Ideal) L m mr (ix2 r u) = kent fun k => L (ix2 r k) := by
  unfold k2_pay12 kent
  refine congrArg (Ideal.ofBits .f32 0x00000000#32 - ·) ((rowsum _ _ _ _ _ r u).trans (Finset.sum_congr rfl fun k _ =>
    congrArg₂ (· * ·) (congrArg₂ Ideal.div (exp_apply L mr hmr r k) ((across _ _ r k).trans (expSum_apply L mr hmr r)))
      (logp_apply L m mr hm hmr r k)))
/-- and the log-probability of the action taken. -/
theorem alp_apply (hm : ∀ r, m (ix2 r 0) = rowMax fun k => L (ix2 r k)) (hmr : ∀ r k, mr (ix2 r k) = rowMax fun k => L (ix2 r k))
    (a : IVec S4096x1 32) (r : Fin 4096) (u : Fin 1) :
    k2_pay13 (F := Ideal) L m mr a (ix2 r u) = kalp (fun k => L (ix2 r k)) (a (ix2 r 0)) := by
  unfold k2_pay13 kalp
  refine (rowsum _ _ _ _ _ r u).trans (Finset.sum_congr rfl fun k _ => congrArg₂ (· * ·) (logp_apply L m mr hm hmr r k) ?_)
  refine Eq.trans ?_ (indicator _ _)
  refine congrArg₂ (fun x y => FloatOps.sitofp (F := Ideal) .f32 ((IntOp.cmpi .eq x y).setWidth 32)) ?_ ?_
  · exact iota_single_apply .tc S4096x20 32 1 _ (ix2 r k)
  · exact (across _ _ r k).trans (congrFun (shapeCast_self a _) _)

end Softmax

/-- The critic's pre-activation, -/
theorem critic_apply (x y : FVec Ideal S4096x256 .f32) (wa wb : FVec Ideal S256x256 .f32) (b : FVec Ideal S1x256 .f32)
    (r : Fin 4096) (j : Fin 256) :
    k2_pay14 (F := Ideal) x y wa wb b (ix2 r j)
      = ((∑ k : Fin 256, x (ix2 r k) * wa (ix2 k j)) + ∑ k : Fin 256, y (ix2 r k) * wb (ix2 k j)) + b (ix2 0 j) := by
  unfold k2_pay14
  rw [shapeCast_self, shapeCast_self]
  exact congrArg₂ (· + ·) (congrArg₂ (· + ·) (product none x wa r j) (product none y wb r j)) (bias b _ _ r j)
/-- and the value. -/
theorem value_apply (x y : FVec Ideal S4096x256 .f32) (wa wb : FVec Ideal S256x256 .f32) (b w : FVec Ideal S1x256 .f32) (d : FVec Ideal S1x1 .f32)
    (r : Fin 4096) (u : Fin 1) :
    k2_pay1 (F := Ideal) (k2_pay14 x y wa wb b) (k2_pay15 x y wa wb b) w d (ix2 r u)
      = kval (fun k => x (ix2 r k)) (fun k => y (ix2 r k)) (fun k j => wa (ix2 k j)) (fun k j => wb (ix2 k j))
          (fun j => b (ix2 0 j)) (fun j => w (ix2 0 j)) (d (ix2 0 0)) := by
  unfold k2_pay1 k2_pay15 kval
  refine congrArg₂ (· + ·) ((rowsum _ _ _ _ _ r u).trans (Finset.sum_congr rfl fun j _ =>
    congrArg₂ (· * ·) (congrArg gelu (critic_apply x y wa wb b r j)) (bias w _ _ r j))) (congrArg d (funext fun a => ?_))
  match a with
  | ⟨0, _⟩ => rfl
  | ⟨1, _⟩ => rfl

/-! ## The results in terms of the arrays the call finds -/

/-- Player `p`'s second-layer activations as the call finds them, -/
def given (c : Dev nD) (p : Fin 2) (b : Fin 16384) (k : Fin 256) : EReal :=
  match p with
  | ⟨0, _⟩ => (V c main_v8_0 : FVec Ideal S16384x256 .bf16) (ix2 b k)
  | ⟨1, _⟩ => (V c main_v8_1 : FVec Ideal S16384x256 .bf16) (ix2 b k)
/-- normalised. -/
def h2 (c : Dev nD) (p : Fin 2) (b : Fin 16384) (k : Fin 256) : EReal :=
  knorm (stat (V c main_v8_2 : FVec Ideal S4x1x256 .f32) k) (stat (V c main_v8_3 : FVec Ideal S4x1x256 .f32) k) (given V c p b k)
/-- The logits. -/
def logit (c : Dev nD) (b : Fin 16384) : Fin 20 → EReal :=
  lin (h2 V c 0 b) (fun k j => (V c main_arg6 : FVec Ideal S256x20 .f32) (ix2 k j)) (fun j => (V c main_v9 : FVec Ideal S1x20 .f32) (ix2 0 j))
/-- The log-probability of the action taken. -/
def alp (c : Dev nD) (b : Fin 16384) : EReal := kalp (logit V c b) ((V c main_v4 : IVec S16384x1 32) (ix2 b 0))
/-- The entropy. -/
def ent (c : Dev nD) (b : Fin 16384) : EReal := kent (logit V c b)
/-- The value. -/
def val (c : Dev nD) (b : Fin 16384) : EReal :=
  kval (h2 V c 0 b) (h2 V c 1 b) (fun k j => (V c main_v2 : FVec Ideal S256x256 .f32) (ix2 k j))
    (fun k j => (V c main_v3 : FVec Ideal S256x256 .f32) (ix2 k j)) (fun j => (V c main_v10 : FVec Ideal S1x256 .f32) (ix2 0 j))
    (fun j => (V c main_v11 : FVec Ideal S1x256 .f32) (ix2 0 j)) ((V c main_v12 : FVec Ideal S1x1 .f32) (ix2 0 0))

/-! ## The windows' blocks -/

/-- The block number of a grid point. -/
abbrev pt (t : Fin cfg2.N) : Fin 4 := t.cast N_2

/-- The block number of player 0's activations. -/
theorem idx_0 : ∀ t : Fin cfg2.N, win2_0.index t = ![t.val, 0] := by decide +kernel
/-- The block number of player 1's activations. -/
theorem idx_1 : ∀ t : Fin cfg2.N, win2_1.index t = ![t.val, 0] := by decide +kernel
/-- The block number of the sums. -/
theorem idx_2 : ∀ t : Fin cfg2.N, win2_2.index t = ![0, 0, 0] := by decide +kernel
/-- The block number of the sums of squares. -/
theorem idx_3 : ∀ t : Fin cfg2.N, win2_3.index t = ![0, 0, 0] := by decide +kernel
/-- The block number of the actor's weights. -/
theorem idx_4 : ∀ t : Fin cfg2.N, win2_4.index t = ![0, 0] := by decide +kernel
/-- The block number of the actor's bias. -/
theorem idx_5 : ∀ t : Fin cfg2.N, win2_5.index t = ![0, 0] := by decide +kernel
/-- The block number of the critic's weights for player 0. -/
theorem idx_6 : ∀ t : Fin cfg2.N, win2_6.index t = ![0, 0] := by decide +kernel
/-- The block number of the critic's weights for player 1. -/
theorem idx_7 : ∀ t : Fin cfg2.N, win2_7.index t = ![0, 0] := by decide +kernel
/-- The block number of the critic's bias. -/
theorem idx_8 : ∀ t : Fin cfg2.N, win2_8.index t = ![0, 0] := by decide +kernel
/-- The block number of the critic's output weights. -/
theorem idx_9 : ∀ t : Fin cfg2.N, win2_9.index t = ![0, 0] := by decide +kernel
/-- The block number of the critic's output bias. -/
theorem idx_10 : ∀ t : Fin cfg2.N, win2_10.index t = ![0, 0] := by decide +kernel
/-- The block number of the actions. -/
theorem idx_11 : ∀ t : Fin cfg2.N, win2_11.index t = ![t.val, 0] := by decide +kernel
/-- The block number of the log-probabilities. -/
theorem idx_12 : ∀ t : Fin cfg2.N, win2_12.index t = ![t.val, 0] := by decide +kernel
/-- The block number of the values. -/
theorem idx_13 : ∀ t : Fin cfg2.N, win2_13.index t = ![t.val, 0] := by decide +kernel
/-- The block number of the entropies. -/
theorem idx_14 : ∀ t : Fin cfg2.N, win2_14.index t = ![t.val, 0] := by decide +kernel

/-- A block of player 0's activations. -/
theorem in_0 (c : Dev nD) (t : Fin cfg2.N) (r : Fin 4096) (k : Fin 256) :
    (iblk2 V c 0 t : Vec Ideal S4096x256 .bf16) (ix2 r k) = (V c main_v8_0 : Vec Ideal S16384x256 .bf16) (ix2 (blk (pt t) r) k) := by
  blk_simp [iblk2]
  refine congrArg (V c main_v8_0) ?_
  blk_ext [idx_0]
  show t.val * 4096 + r.val = 4096 * t.val + r.val
  omega
/-- A block of player 1's activations. -/
theorem in_1 (c : Dev nD) (t : Fin cfg2.N) (r : Fin 4096) (k : Fin 256) :
    (iblk2 V c 1 t : Vec Ideal S4096x256 .bf16) (ix2 r k) = (V c main_v8_1 : Vec Ideal S16384x256 .bf16) (ix2 (blk (pt t) r) k) := by
  blk_simp [iblk2]
  refine congrArg (V c main_v8_1) ?_
  blk_ext [idx_1]
  show t.val * 4096 + r.val = 4096 * t.val + r.val
  omega
/-- A block of the sums. -/
theorem in_2 (c : Dev nD) (t : Fin cfg2.N) : (iblk2 V c 2 t : Vec Ideal S4x1x256 .f32) = V c main_v8_2 := by
  funext y
  blk_simp [iblk2]
  refine congrArg (V c main_v8_2) ?_
  blk_ext [idx_2]
/-- A block of the sums of squares. -/
theorem in_3 (c : Dev nD) (t : Fin cfg2.N) : (iblk2 V c 3 t : Vec Ideal S4x1x256 .f32) = V c main_v8_3 := by
  funext y
  blk_simp [iblk2]
  refine congrArg (V c main_v8_3) ?_
  blk_ext [idx_3]
/-- A block of the actor's weights. -/
theorem in_4 (c : Dev nD) (t : Fin cfg2.N) : (iblk2 V c 4 t : Vec Ideal S256x20 .f32) = V c main_arg6 := by
  funext y
  blk_simp [iblk2]
  refine congrArg (V c main_arg6) ?_
  blk_ext [idx_4]
/-- A block of the actor's bias. -/
theorem in_5 (c : Dev nD) (t : Fin cfg2.N) : (iblk2 V c 5 t : Vec Ideal S1x20 .f32) = V c main_v9 := by
  funext y
  blk_simp [iblk2]
  refine congrArg (V c main_v9) ?_
  blk_ext [idx_5]
/-- A block of the critic's weights for player 0. -/
theorem in_6 (c : Dev nD) (t : Fin cfg2.N) : (iblk2 V c 6 t : Vec Ideal S256x256 .f32) = V c main_v2 := by
  funext y
  blk_simp [iblk2]
  refine congrArg (V c main_v2) ?_
  blk_ext [idx_6]
/-- A block of the critic's weights for player 1. -/
theorem in_7 (c : Dev nD) (t : Fin cfg2.N) : (iblk2 V c 7 t : Vec Ideal S256x256 .f32) = V c main_v3 := by
  funext y
  blk_simp [iblk2]
  refine congrArg (V c main_v3) ?_
  blk_ext [idx_7]
/-- A block of the critic's bias. -/
theorem in_8 (c : Dev nD) (t : Fin cfg2.N) : (iblk2 V c 8 t : Vec Ideal S1x256 .f32) = V c main_v10 := by
  funext y
  blk_simp [iblk2]
  refine congrArg (V c main_v10) ?_
  blk_ext [idx_8]
/-- A block of the critic's output weights. -/
theorem in_9 (c : Dev nD) (t : Fin cfg2.N) : (iblk2 V c 9 t : Vec Ideal S1x256 .f32) = V c main_v11 := by
  funext y
  blk_simp [iblk2]
  refine congrArg (V c main_v11) ?_
  blk_ext [idx_9]
/-- A block of the critic's output bias. -/
theorem in_10 (c : Dev nD) (t : Fin cfg2.N) : (iblk2 V c 10 t : Vec Ideal S1x1 .f32) = V c main_v12 := by
  funext y
  blk_simp [iblk2]
  refine congrArg (V c main_v12) ?_
  blk_ext [idx_10]
/-- A block of the actions. -/
theorem in_11 (c : Dev nD) (t : Fin cfg2.N) (r : Fin 4096) (k : Fin 1) :
    (iblk2 V c 11 t : Vec Ideal S4096x1 .i32) (ix2 r k) = (V c main_v4 : Vec Ideal S16384x1 .i32) (ix2 (blk (pt t) r) k) := by
  blk_simp [iblk2]
  refine congrArg (V c main_v4) ?_
  blk_ext [idx_11]
  show t.val * 4096 + r.val = 4096 * t.val + r.val
  omega

/-- The logits of block `t`, -/
theorem block_logit (c : Dev nD) (t : Fin cfg2.N) (r : Fin 4096) :
    (fun k => k2_pay18 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (ix2 r k))
      = logit V c (blk (pt t) r) := by
  funext k
  unfold k2_pay18 logit
  rw [logits_apply, View.ld_unit_zero hz3, View.ld_unit_zero hz3, View.ld_unit_zero hz2, View.ld_unit_zero hz2, View.ld_unit_zero hz2,
    in_2, in_3, in_4, in_5]
  refine congrArg (fun x => lin x _ _ k) (funext fun k => ?_)
  rw [in_0]; rfl
/-- and the two players' normalised rows. -/
theorem block_0 (c : Dev nD) (t : Fin cfg2.N) (r : Fin 4096) (k : Fin 256) :
    k2_pay16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (ix2 r k)
      = h2 V c 0 (blk (pt t) r) k := by
  unfold k2_pay16 h2
  rw [norm_0, View.ld_unit_zero hz3, View.ld_unit_zero hz3, View.ld_unit_zero hz2, in_2, in_3, in_0]
  rfl
/-- (Player 1's.) -/
theorem block_1 (c : Dev nD) (t : Fin cfg2.N) (r : Fin 4096) (k : Fin 256) :
    k2_pay17 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (ix2 r k)
      = h2 V c 1 (blk (pt t) r) k := by
  unfold k2_pay17 h2
  rw [norm_1, View.ld_unit_zero hz3, View.ld_unit_zero hz3, View.ld_unit_zero hz2, in_2, in_3, in_1]
  rfl

/-! ## What the call leaves -/

/-- The log-probabilities of the actions taken, -/
theorem final12 (c : Dev nD) : (dat2 V c).arrAt 12 cfg2.N = fun i : S16384x1.Idx => alp V c (i 0) := by
  refine (dat2 V c).arrAt_eq_of_covers 12 _ (by decide +kernel) fun t hf y => ?_
  blk_simp
  rw [after2_12]
  unfold out2_12
  rw [View.canon_unit_zero hz2]
  obtain ⟨r, u, rfl⟩ : ∃ (r : Fin 4096) (u : Fin 1), y = ix2 r u := ⟨y 0, y 1, eq_ix2 y⟩
  refine Eq.trans (b := alp V c (blk (pt t) r)) ?_ (congrArg (alp V c) (Fin.ext ?_))
  · refine (alp_apply _ _ _ (fun r => max_apply _ _ _ _ _ r) (fun r k => maxRow_apply _ _ _ _ _ r k) _ r u).trans ?_
    exact congrArg₂ kalp (block_logit V c t r) ((congrFun (View.ld_unit_zero hz2 _ _) _).trans (in_11 V c t r 0))
  · blk_simp [idx_12]
    show 4096 * t.val + r.val = t.val * 4096 + r.val
    omega

/-- the values, -/
theorem final13 (c : Dev nD) : (dat2 V c).arrAt 13 cfg2.N = fun i : S16384x1.Idx => val V c (i 0) := by
  refine (dat2 V c).arrAt_eq_of_covers 13 _ (by decide +kernel) fun t hf y => ?_
  blk_simp
  rw [after2_13]
  unfold out2_13
  rw [View.canon_unit_zero hz2]
  obtain ⟨r, u, rfl⟩ : ∃ (r : Fin 4096) (u : Fin 1), y = ix2 r u := ⟨y 0, y 1, eq_ix2 y⟩
  refine Eq.trans (b := val V c (blk (pt t) r)) ?_ (congrArg (val V c) (Fin.ext ?_))
  · refine (value_apply _ _ _ _ _ _ _ r u).trans ?_
    rw [funext (block_0 V c t r), funext (block_1 V c t r)]
    unfold val
    rw [View.ld_unit_zero (S := S256x256) hz2, View.ld_unit_zero (S := S256x256) hz2, View.ld_unit_zero (S := S1x256) hz2,
      View.ld_unit_zero (S := S1x256) hz2, View.ld_unit_zero (S := S1x1) hz2, in_6, in_7, in_8, in_9, in_10]
  · blk_simp [idx_13]
    show 4096 * t.val + r.val = t.val * 4096 + r.val
    omega

/-- and the entropies. -/
theorem final14 (c : Dev nD) : (dat2 V c).arrAt 14 cfg2.N = fun i : S16384x1.Idx => ent V c (i 0) := by
  refine (dat2 V c).arrAt_eq_of_covers 14 _ (by decide +kernel) fun t hf y => ?_
  blk_simp
  rw [after2_14]
  unfold out2_14
  rw [View.canon_unit_zero hz2]
  obtain ⟨r, u, rfl⟩ : ∃ (r : Fin 4096) (u : Fin 1), y = ix2 r u := ⟨y 0, y 1, eq_ix2 y⟩
  refine Eq.trans (b := ent V c (blk (pt t) r)) ?_ (congrArg (ent V c) (Fin.ext ?_))
  · refine (ent_apply _ _ _ (fun r => max_apply _ _ _ _ _ r) (fun r k => maxRow_apply _ _ _ _ _ r k) r u).trans ?_
    exact congrArg kent (block_logit V c t r)
  · blk_simp [idx_14]
    show 4096 * t.val + r.val = t.val * 4096 + r.val
    omega

end Cert.KernelIdeal.Third

end
-- ==== Proof.Network.lean ====
/- The two shared layers, over the kernel's (player, batch element) rows and over the reference's 32768 stacked rows, and
   their agreement on real inputs and weights. -/
module

public import proofs.«01_k».proof.Proof.Norm

@[expose] public section

noncomputable section

namespace Cert.Alg

open Idealize.ShloMosaic

/-- A layer's activations, row by row. -/
def layer {R : Type} {K J : ℕ} (X : R → Fin K → EReal) (W : Fin K → Fin J → EReal) (b : Fin J → EReal) (r : R) (j : Fin J) : EReal :=
  gelu (lin (X r) W b j)

/-- Each column normalised from its row blocks' sums and sums of squares. -/
def kcols {J : ℕ} (G : Fin 2 → Fin 16384 → Fin J → EReal) (p : Fin 2) (b : Fin 16384) (j : Fin J) : EReal :=
  knorm (psum fun p b => G p b j) (psum fun p b => G p b j * G p b j) (G p b j)

/-- Each column normalised from its mean and its mean squared deviation. -/
def rcols {J : ℕ} (G : Fin 32768 → Fin J → EReal) (r : Fin 32768) (j : Fin J) : EReal := rnorm (fun r => G r j) r

/-- The kernel's layer, player by player. -/
def klayer {K J : ℕ} (X : Fin 2 → Fin 16384 → Fin K → EReal) (W : Fin K → Fin J → EReal) (b : Fin J → EReal) :
    Fin 2 → Fin 16384 → Fin J → EReal := fun p => layer (X p) W b

/-- The kernel's two layers. -/
def knet {K J M : ℕ} (X : Fin 2 → Fin 16384 → Fin K → EReal) (W₁ : Fin K → Fin J → EReal) (b₁ : Fin J → EReal)
    (W₂ : Fin J → Fin M → EReal) (b₂ : Fin M → EReal) : Fin 2 → Fin 16384 → Fin M → EReal :=
  kcols (klayer (kcols (klayer X W₁ b₁)) W₂ b₂)

/-- The reference's two layers. -/
def rnet {K J M : ℕ} (Y : Fin 32768 → Fin K → EReal) (W₁ : Fin K → Fin J → EReal) (b₁ : Fin J → EReal)
    (W₂ : Fin J → Fin M → EReal) (b₂ : Fin M → EReal) : Fin 32768 → Fin M → EReal :=
  rcols (layer (rcols (layer Y W₁ b₁)) W₂ b₂)

/-- On real rows the two normalisations agree, -/
theorem kcols_eq {J : ℕ} (F : Fin 32768 → Fin J → EReal) (hF : ∀ r j, IsReal (F r j)) :
    (kcols fun p b => F (row p b)) = fun p b => rcols F (row p b) :=
  funext fun p => funext fun b => funext fun j => (norm_eq (fun r => F r j) (fun r => hF r j) (row p b)).1

/-- and leave real rows. -/
theorem rcols_real {J : ℕ} (F : Fin 32768 → Fin J → EReal) (hF : ∀ r j, IsReal (F r j)) (r : Fin 32768) (j : Fin J) :
    IsReal (rcols F r j) := (norm_eq (fun r => F r j) (fun r => hF r j) r).2

/-- A layer of real rows, weights and biases is real. -/
theorem layer_real {R : Type} {K J : ℕ} {X : R → Fin K → EReal} {W : Fin K → Fin J → EReal} {b : Fin J → EReal}
    (hX : ∀ r k, IsReal (X r k)) (hW : ∀ k j, IsReal (W k j)) (hb : ∀ j, IsReal (b j)) (r : R) (j : Fin J) :
    IsReal (layer X W b r j) := IsReal.gelu (IsReal.lin (hX r) hW hb j)

/-- On real inputs, weights and biases the kernel's two layers are the reference's, each row of the kernel's being the
    row of the reference's with the players interleaved. -/
theorem net_eq {K J M : ℕ} (Y : Fin 32768 → Fin K → EReal) (W₁ : Fin K → Fin J → EReal) (b₁ : Fin J → EReal)
    (W₂ : Fin J → Fin M → EReal) (b₂ : Fin M → EReal) (hY : ∀ r k, IsReal (Y r k)) (hW₁ : ∀ k j, IsReal (W₁ k j))
    (hb₁ : ∀ j, IsReal (b₁ j)) (hW₂ : ∀ k j, IsReal (W₂ k j)) (hb₂ : ∀ j, IsReal (b₂ j)) :
    knet (fun p b => Y (row p b)) W₁ b₁ W₂ b₂ = fun p b => rnet Y W₁ b₁ W₂ b₂ (row p b) := by
  have h₁ := layer_real hY hW₁ hb₁
  have h₂ := layer_real (rcols_real _ h₁) hW₂ hb₂
  have e₁ : kcols (klayer (fun p b => Y (row p b)) W₁ b₁) = fun p b => rcols (layer Y W₁ b₁) (row p b) := kcols_eq _ h₁
  unfold knet rnet
  rw [e₁]
  exact kcols_eq _ h₂

end Cert.Alg

end
-- ==== Proof.Chain.lean ====
/- THE KERNEL'S RESULTS in terms of its arguments: the host operations' reshapes and slices, then the three calls, each
   reading what the one before left. -/
module

public import proofs.«01_k».proof.Proof.First
public import proofs.«01_k».proof.Proof.Second
public import proofs.«01_k».proof.Proof.Third
public import proofs.«01_k».proof.Proof.Network
public import Idealize.ShloMosaic.Lib.Claim

@[expose] public section

set_option maxRecDepth 16384

noncomputable section

namespace Cert.KernelIdeal.Chain

open Idealize.ShloMosaic hiding ix1 ix2 ix3 eq_ix1 eq_ix2 eq_ix3
open Idealize.ShloMosaic.TcCoe Idealize.ShloMosaic.ValueIdx Idealize.SL.Sem
open Cert.KernelIdeal Cert.KernelIdeal.Gen Cert.Alg Cert.Vect

variable (m : (ℓ : Loc nD τ sig) → Buf (Elt Ideal) ℓ) (ρ : Dev nD → PrngReg) (c : Dev nD)

/-! ## The arguments, as functions of their indices -/

/-- The states. -/
abbrev states : FVec Ideal S16384x2x128 .f32 := m ((c : Thread nD τ).loc main_arg0)
/-- The beliefs. -/
abbrev beliefs : FVec Ideal S16384x2x128 .f32 := m ((c : Thread nD τ).loc main_arg1)
/-- Player `p`'s inputs of batch element `b`: its states, then its beliefs. -/
def X (p : Fin 2) (b : Fin 16384) (k : Fin 256) : EReal :=
  if h : k.val < 128 then states m c (ix3 b p ⟨k.val, h⟩) else beliefs m c (ix3 b p ⟨k.val - 128, by have := k.isLt; omega⟩)
/-- The first layer's weights, -/
abbrev w1 (k : Fin 256) (j : Fin 512) : EReal := (m ((c : Thread nD τ).loc main_arg2) : FVec Ideal S256x512 .f32) (ix2 k j)
/-- its bias, -/
abbrev b1 (j : Fin 512) : EReal := (m ((c : Thread nD τ).loc main_arg3) : FVec Ideal S512 .f32) (ix1 j)
/-- the second layer's weights, -/
abbrev w2 (k : Fin 512) (j : Fin 256) : EReal := (m ((c : Thread nD τ).loc main_arg4) : FVec Ideal S512x256 .f32) (ix2 k j)
/-- its bias, -/
abbrev b2 (j : Fin 256) : EReal := (m ((c : Thread nD τ).loc main_arg5) : FVec Ideal S256 .f32) (ix1 j)
/-- the actor's weights, -/
abbrev wa (k : Fin 256) (j : Fin 20) : EReal := (m ((c : Thread nD τ).loc main_arg6) : FVec Ideal S256x20 .f32) (ix2 k j)
/-- its bias, -/
abbrev ba (j : Fin 20) : EReal := (m ((c : Thread nD τ).loc main_arg7) : FVec Ideal S20 .f32) (ix1 j)
/-- the critic's weights, over both players' rows, -/
abbrev wc (k : Fin 512) (j : Fin 256) : EReal := (m ((c : Thread nD τ).loc main_arg10) : FVec Ideal S512x256 .f32) (ix2 k j)
/-- their two halves, one per player, -/
abbrev half (p : Fin 2) (k : Fin 256) : Fin 512 := ⟨256 * p.val + k.val, by have := p.isLt; have := k.isLt; omega⟩
/-- its bias, -/
abbrev bc (j : Fin 256) : EReal := (m ((c : Thread nD τ).loc main_arg11) : FVec Ideal S256 .f32) (ix1 j)
/-- its output weights -/
abbrev wo (j : Fin 256) : EReal := (m ((c : Thread nD τ).loc main_arg12) : FVec Ideal S256x1 .f32) (ix2 j 0)
/-- and output bias. -/
abbrev bo : EReal := (m ((c : Thread nD τ).loc main_arg13) : FVec Ideal S1 .f32) (ix1 0)
/-- The actions. -/
abbrev act (b : Fin 16384) : BitVec 32 := (m ((c : Thread nD τ).loc main_arg14) : IVec S16384 32) (ix1 b)

/-- The players' normalised rows after both layers. -/
def hid : Fin 2 → Fin 16384 → Fin 256 → EReal := knet (X m c) (w1 m c) (b1 m c) (w2 m c) (b2 m c)

/-! ## What the host operations hand to the calls -/

/-- The states, two players side by side. -/
theorem at_v0 : (W1 m ρ c (Proc.devRef .tc main_v0) : FVec Ideal S16384x256 .f32) = shapeCast _ (states m c) shapeCasts_S16384x2x128_S16384x256 := by
  after_results; rfl
/-- The beliefs, likewise. -/
theorem at_v1 : (W1 m ρ c (Proc.devRef .tc main_v1) : FVec Ideal S16384x256 .f32) = shapeCast _ (beliefs m c) shapeCasts_S16384x2x128_S16384x256 := by
  after_results; rfl
/-- The first half of the critic's weights. -/
theorem at_v2 : (W1 m ρ c (Proc.devRef .tc main_v2) : FVec Ideal S256x256 .f32)
    = extractStridedSlice S256x256 ![0, 0] (m ((c : Thread nD τ).loc main_arg10) : FVec Ideal S512x256 .f32) slices_S512x256_S256x256_0_0 := by
  after_results
/-- The second half. -/
theorem at_v3 : (W1 m ρ c (Proc.devRef .tc main_v3) : FVec Ideal S256x256 .f32)
    = extractStridedSlice S256x256 ![256, 0] (m ((c : Thread nD τ).loc main_arg10) : FVec Ideal S512x256 .f32) slices_S512x256_S256x256_256_0 := by
  after_results
/-- The actions as a column. -/
theorem at_v4 : (W1 m ρ c (Proc.devRef .tc main_v4) : IVec S16384x1 32)
    = shapeCast _ (m ((c : Thread nD τ).loc main_arg14) : IVec S16384 32) shapeCasts_S16384_S16384x1 := by
  after_results; rfl
/-- The first bias as a row. -/
theorem at_v5 : (W1 m ρ c (Proc.devRef .tc main_v5) : FVec Ideal S1x512 .f32)
    = shapeCast _ (m ((c : Thread nD τ).loc main_arg3) : FVec Ideal S512 .f32) shapeCasts_S512_S1x512 := by
  after_results; rfl
/-- The second bias as a row. -/
theorem at_v7 : (W3 m ρ c (Proc.devRef .tc main_v7) : FVec Ideal S1x256 .f32)
    = shapeCast _ (W2 m ρ c (Proc.devRef .tc main_arg5) : FVec Ideal S256 .f32) shapeCasts_S256_S1x256 := by
  after_results; rfl
/-- The actor's bias as a row. -/
theorem at_v9 : (W5 m ρ c (Proc.devRef .tc main_v9) : FVec Ideal S1x20 .f32)
    = shapeCast _ (W4 m ρ c (Proc.devRef .tc main_arg7) : FVec Ideal S20 .f32) shapeCasts_S20_S1x20 := by
  after_results; rfl
/-- The critic's bias as a row. -/
theorem at_v10 : (W5 m ρ c (Proc.devRef .tc main_v10) : FVec Ideal S1x256 .f32)
    = shapeCast _ (W4 m ρ c (Proc.devRef .tc main_arg11) : FVec Ideal S256 .f32) shapeCasts_S256_S1x256 := by
  after_results; rfl
/-- The critic's output weights as a row. -/
theorem at_v11 : (W5 m ρ c (Proc.devRef .tc main_v11) : FVec Ideal S1x256 .f32)
    = shapeCast _ (W4 m ρ c (Proc.devRef .tc main_arg12) : FVec Ideal S256x1 .f32) shapeCasts_S256x1_S1x256 := by
  after_results; rfl
/-- The critic's output bias. -/
theorem at_v12 : (W5 m ρ c (Proc.devRef .tc main_v12) : FVec Ideal S1x1 .f32)
    = shapeCast _ (W4 m ρ c (Proc.devRef .tc main_arg13) : FVec Ideal S1 .f32) shapeCasts_S1_S1x1 := by
  after_results; rfl
/-- The log-probabilities as a vector. -/
theorem at_v14 : (W7 m ρ c (Proc.devRef .tc main_v14) : FVec Ideal S16384 .f32)
    = shapeCast _ (W6 m ρ c (Proc.devRef .tc main_v13_0) : FVec Ideal S16384x1 .f32) shapeCasts_S16384x1_S16384 := by
  after_results; rfl
/-- The values as a vector. -/
theorem at_v15 : (W7 m ρ c (Proc.devRef .tc main_v15) : FVec Ideal S16384 .f32)
    = shapeCast _ (W6 m ρ c (Proc.devRef .tc main_v13_1) : FVec Ideal S16384x1 .f32) shapeCasts_S16384x1_S16384 := by
  after_results; rfl
/-- The entropies as a vector. -/
theorem at_v16 : (W7 m ρ c (Proc.devRef .tc main_v16) : FVec Ideal S16384 .f32)
    = shapeCast _ (W6 m ρ c (Proc.devRef .tc main_v13_2) : FVec Ideal S16384x1 .f32) shapeCasts_S16384x1_S16384 := by
  after_results; rfl

/-- A (batch, player, feature) array with the players side by side, read at a player's column. -/
theorem side_apply (x : FVec Ideal S16384x2x128 .f32) (p : Fin 2) (b : Fin 16384) (k : ℕ) (hk : k < 128) (h) :
    shapeCast S16384x256 x shapeCasts_S16384x2x128_S16384x256 (ix2 b ⟨128 * p.val + k, h⟩) = x (ix3 b p ⟨k, hk⟩) := by
  refine shapeCast_apply x _ _ (ix3 b p ⟨k, hk⟩) ?_
  rw [Shape.rowMajor_val_three, Shape.rowMajor_val_two]
  show (b.val * 2 + p.val) * 128 + k = b.val * 256 + (128 * p.val + k)
  omega

/-- A column laid out as a vector. -/
theorem column_apply {α : Type} (x : Shape.Idx S16384x1 → α) (i : S16384.Idx) :
    shapeCast S16384 x shapeCasts_S16384x1_S16384 i = x (ix2 (i 0) 0) := by
  refine shapeCast_apply x _ _ (ix2 (i 0) 0) ?_
  rw [Shape.rowMajor_val_two, Shape.rowMajor_val_one]
  show (i 0).val * 1 + 0 = (i 0).val
  omega

/-- The critic's output weights as a row. -/
theorem flip_apply (x : FVec Ideal S256x1 .f32) (j : Fin 256) : shapeCast S1x256 x shapeCasts_S256x1_S1x256 (ix2 0 j) = x (ix2 j 0) := by
  refine shapeCast_apply x _ _ (ix2 j 0) ?_
  rw [Shape.rowMajor_val_two, Shape.rowMajor_val_two]
  show j.val * 1 + 0 = 0 * 256 + j.val
  omega

/-- A half of the critic's weights. -/
theorem half_apply (x : FVec Ideal S512x256 .f32) (p : Fin 2) (k j : Fin 256) (o : ℕ) (ho : o = 256 * p.val) {h : S512x256.Slices ![o, 0] S256x256} :
    extractStridedSlice S256x256 ![o, 0] x h (ix2 k j) = x (ix2 (half p k) j) := by
  subst ho
  refine extractStridedSlice_apply _ x h _ (ix2 (half p k) j) fun a => ?_
  match a with
  | ⟨0, _⟩ => rfl
  | ⟨1, _⟩ => show j.val = 0 + j.val; omega

/-! ## The first call -/

/-- Its inputs are the players' own. -/
theorem input_eq (p : Fin 2) (b : Fin 16384) : First.input (V1 m ρ c main_v0) (V1 m ρ c main_v1) p b = X m c p b := by
  funext k
  unfold First.input X
  split_ifs with h
  · exact (congrFun (at_v0 m ρ c) _).trans (side_apply _ p b _ h _)
  · exact (congrFun (at_v1 m ρ c) _).trans (side_apply _ p b _ _ _)

/-- It computes the first layer. -/
theorem first_eq : First.g1 (V1 m ρ) c = klayer (X m c) (w1 m c) (b1 m c) := by
  funext p b j
  unfold First.g1 klayer layer
  rw [input_eq]
  have e2 : (V1 m ρ c main_arg2 : FVec Ideal S256x512 .f32) = m ((c : Thread nD τ).loc main_arg2) := W1_args m ρ c main_arg2 (by decide)
  have e5 : (fun j => (V1 m ρ c main_v5 : FVec Ideal S1x512 .f32) (ix2 0 j)) = b1 m c := funext fun j =>
    (congrFun (at_v5 m ρ c) _).trans (shapeCast_a_1a_apply _ _ _ _)
  rw [e2, e5]

/-! ## The second call -/

/-- It finds player 0's activations, -/
theorem at_v6_0 : (V3 m ρ c main_v6_0 : FVec Ideal S16384x512 .bf16) = fun i => klayer (X m c) (w1 m c) (b1 m c) 0 (i 0) (i 1) :=
  (W3_of m ρ c main_v6_0 (by decide)).trans ((W2_arr m ρ c 4).trans ((First.final4 (V1 m ρ) c).trans (by rw [first_eq]; rfl)))
/-- player 1's, -/
theorem at_v6_1 : (V3 m ρ c main_v6_1 : FVec Ideal S16384x512 .bf16) = fun i => klayer (X m c) (w1 m c) (b1 m c) 1 (i 0) (i 1) :=
  (W3_of m ρ c main_v6_1 (by decide)).trans ((W2_arr m ρ c 5).trans ((First.final5 (V1 m ρ) c).trans (by rw [first_eq]; rfl)))
/-- each column's block sums, -/
theorem at_v6_2 (j : Fin 512) : stat (V3 m ρ c main_v6_2 : FVec Ideal S4x1x512 .f32) j = psum fun p b => klayer (X m c) (w1 m c) (b1 m c) p b j := by
  have e : (V3 m ρ c main_v6_2 : FVec Ideal S4x1x512 .f32) = _ := (W3_of m ρ c main_v6_2 (by decide)).trans ((W2_arr m ρ c 6).trans (First.final6 (V1 m ρ) c))
  rw [e, first_eq]
  rfl
/-- and each column's block sums of squares. -/
theorem at_v6_3 (j : Fin 512) : stat (V3 m ρ c main_v6_3 : FVec Ideal S4x1x512 .f32) j
    = psum fun p b => klayer (X m c) (w1 m c) (b1 m c) p b j * klayer (X m c) (w1 m c) (b1 m c) p b j := by
  have e : (V3 m ρ c main_v6_3 : FVec Ideal S4x1x512 .f32) = _ := (W3_of m ρ c main_v6_3 (by decide)).trans ((W2_arr m ρ c 7).trans (First.final7 (V1 m ρ) c))
  rw [e, first_eq]
  rfl

/-- It computes the second layer of the normalised first. -/
theorem second_eq : Second.g2 (V3 m ρ) c = klayer (kcols (klayer (X m c) (w1 m c) (b1 m c))) (w2 m c) (b2 m c) := by
  funext p b j
  unfold Second.g2 klayer layer
  have e4 : (V3 m ρ c main_arg4 : FVec Ideal S512x256 .f32) = m ((c : Thread nD τ).loc main_arg4) := W3_args m ρ c main_arg4 (by decide)
  have e7 : (fun j => (V3 m ρ c main_v7 : FVec Ideal S1x256 .f32) (ix2 0 j)) = b2 m c := funext fun j =>
    (congrFun (at_v7 m ρ c) _).trans ((shapeCast_a_1a_apply _ _ _ _).trans (congrFun (W2_args m ρ c main_arg5 (by decide)) _))
  rw [e4, e7]
  refine congrArg gelu (congrArg (fun x => lin x _ _ j) (funext fun k => ?_))
  rw [at_v6_2, at_v6_3]
  refine congrArg (knorm _ _) ?_
  unfold Second.given
  match p with
  | ⟨0, _⟩ => exact congrFun (at_v6_0 m ρ c) _
  | ⟨1, _⟩ => exact congrFun (at_v6_1 m ρ c) _

/-! ## The third call -/

/-- The second layer's activations. -/
abbrev G2 : Fin 2 → Fin 16384 → Fin 256 → EReal := klayer (kcols (klayer (X m c) (w1 m c) (b1 m c))) (w2 m c) (b2 m c)
/-- It finds player 0's activations, -/
theorem at_v8_0 : (V5 m ρ c main_v8_0 : FVec Ideal S16384x256 .bf16) = fun i => G2 m c 0 (i 0) (i 1) :=
  (W5_of m ρ c main_v8_0 (by decide)).trans ((W4_arr m ρ c 6).trans ((Second.final6 (V3 m ρ) c).trans (by rw [second_eq]; rfl)))
/-- player 1's, -/
theorem at_v8_1 : (V5 m ρ c main_v8_1 : FVec Ideal S16384x256 .bf16) = fun i => G2 m c 1 (i 0) (i 1) :=
  (W5_of m ρ c main_v8_1 (by decide)).trans ((W4_arr m ρ c 7).trans ((Second.final7 (V3 m ρ) c).trans (by rw [second_eq]; rfl)))
/-- each column's block sums, -/
theorem at_v8_2 (j : Fin 256) : stat (V5 m ρ c main_v8_2 : FVec Ideal S4x1x256 .f32) j = psum fun p b => G2 m c p b j := by
  have e : (V5 m ρ c main_v8_2 : FVec Ideal S4x1x256 .f32) = _ := (W5_of m ρ c main_v8_2 (by decide)).trans ((W4_arr m ρ c 8).trans (Second.final8 (V3 m ρ) c))
  rw [e, second_eq]
  rfl
/-- and each column's block sums of squares. -/
theorem at_v8_3 (j : Fin 256) : stat (V5 m ρ c main_v8_3 : FVec Ideal S4x1x256 .f32) j = psum fun p b => G2 m c p b j * G2 m c p b j := by
  have e : (V5 m ρ c main_v8_3 : FVec Ideal S4x1x256 .f32) = _ := (W5_of m ρ c main_v8_3 (by decide)).trans ((W4_arr m ρ c 9).trans (Second.final9 (V3 m ρ) c))
  rw [e, second_eq]
  rfl

/-- It normalises them to the players' rows. -/
theorem third_eq : Third.h2 (V5 m ρ) c = hid m c := by
  funext p b k
  unfold Third.h2 hid knet kcols
  rw [at_v8_2, at_v8_3]
  refine congrArg (knorm _ _) ?_
  unfold Third.given
  match p with
  | ⟨0, _⟩ => exact congrFun (at_v8_0 m ρ c) _
  | ⟨1, _⟩ => exact congrFun (at_v8_1 m ρ c) _

/-- The logits. -/
theorem logit_eq (b : Fin 16384) : Third.logit (V5 m ρ) c b = lin (hid m c 0 b) (wa m c) (ba m c) := by
  unfold Third.logit
  have e6 : (V5 m ρ c main_arg6 : FVec Ideal S256x20 .f32) = m ((c : Thread nD τ).loc main_arg6) := W5_args m ρ c main_arg6 (by decide)
  have e9 : (fun j => (V5 m ρ c main_v9 : FVec Ideal S1x20 .f32) (ix2 0 j)) = ba m c := funext fun j =>
    (congrFun (at_v9 m ρ c) _).trans ((shapeCast_a_1a_apply _ _ _ _).trans (congrFun (W4_args m ρ c main_arg7 (by decide)) _))
  rw [third_eq, e6, e9]

/-- An array the host operations before the first call wrote reaches the third call. -/
theorem keep (r : Ref sig .tc) (h5 : r ∉ hostOps2_W) (h4 : ∀ w : Fin cfg1.W, Pipeline.arrRef spec1 w = r → (cfg1.win w).isOut = false)
    (h3 : r ∉ hostOps1_W) (h2 : ∀ w : Fin cfg0.W, Pipeline.arrRef spec0 w = r → (cfg0.win w).isOut = false) :
    W5 m ρ c (Proc.devRef .tc r) = W1 m ρ c (Proc.devRef .tc r) :=
  (W5_of m ρ c r h5).trans ((W4_of m ρ c r h4).trans ((W3_of m ρ c r h3).trans (W2_of m ρ c r h2)))

/-- THE LOG-PROBABILITIES of the actions taken. -/
theorem alp_eq (b : Fin 16384) : (W7 m ρ c (Proc.devRef .tc main_v14) : FVec Ideal S16384 .f32) (ix1 b)
    = kalp (lin (hid m c 0 b) (wa m c) (ba m c)) (act m c b) := by
  have e4 : (V5 m ρ c main_v4 : IVec S16384x1 32) (ix2 b 0) = act m c b :=
    (congrFun ((keep m ρ c main_v4 (by decide) (by decide +kernel) (by decide) (by decide +kernel)).trans (at_v4 m ρ c)) _).trans
      (shapeCast_a_a1_apply _ _ _ _)
  refine (congrFun (at_v14 m ρ c) (ix1 b)).trans ((column_apply _ _).trans ((congrFun ((W6_arr m ρ c 12).trans (Third.final12 (V5 m ρ) c)) _).trans ?_))
  show Third.alp (V5 m ρ) c b = _
  unfold Third.alp
  rw [logit_eq, e4]

/-- THE ENTROPIES. -/
theorem ent_eq (b : Fin 16384) : (W7 m ρ c (Proc.devRef .tc main_v16) : FVec Ideal S16384 .f32) (ix1 b)
    = kent (lin (hid m c 0 b) (wa m c) (ba m c)) := by
  refine (congrFun (at_v16 m ρ c) (ix1 b)).trans ((column_apply _ _).trans ((congrFun ((W6_arr m ρ c 14).trans (Third.final14 (V5 m ρ) c)) _).trans ?_))
  show Third.ent (V5 m ρ) c b = _
  unfold Third.ent
  rw [logit_eq]

/-- THE VALUES. -/
theorem val_eq (b : Fin 16384) : (W7 m ρ c (Proc.devRef .tc main_v15) : FVec Ideal S16384 .f32) (ix1 b)
    = kval (hid m c 0 b) (hid m c 1 b) (fun k j => wc m c (half 0 k) j) (fun k j => wc m c (half 1 k) j) (bc m c) (wo m c) (bo m c) := by
  have e2 : (fun k j => (V5 m ρ c main_v2 : FVec Ideal S256x256 .f32) (ix2 k j)) = fun k j => wc m c (half 0 k) j := by
    funext k j
    refine (congrFun ((keep m ρ c main_v2 (by decide) (by decide +kernel) (by decide) (by decide +kernel)).trans (at_v2 m ρ c)) _).trans ?_
    exact half_apply _ 0 k j _ rfl
  have e3 : (fun k j => (V5 m ρ c main_v3 : FVec Ideal S256x256 .f32) (ix2 k j)) = fun k j => wc m c (half 1 k) j := by
    funext k j
    refine (congrFun ((keep m ρ c main_v3 (by decide) (by decide +kernel) (by decide) (by decide +kernel)).trans (at_v3 m ρ c)) _).trans ?_
    exact half_apply _ 1 k j _ rfl
  have e10 : (fun j => (V5 m ρ c main_v10 : FVec Ideal S1x256 .f32) (ix2 0 j)) = bc m c := funext fun j =>
    (congrFun (at_v10 m ρ c) _).trans ((shapeCast_a_1a_apply _ _ _ _).trans (congrFun (W4_args m ρ c main_arg11 (by decide)) _))
  have e11 : (fun j => (V5 m ρ c main_v11 : FVec Ideal S1x256 .f32) (ix2 0 j)) = wo m c := funext fun j =>
    (congrFun (at_v11 m ρ c) _).trans ((flip_apply _ _).trans (congrFun (W4_args m ρ c main_arg12 (by decide)) _))
  have e12 : (V5 m ρ c main_v12 : FVec Ideal S1x1 .f32) (ix2 0 0) = bo m c :=
    (congrFun (at_v12 m ρ c) _).trans ((shapeCast_a_1a_apply _ _ _ _).trans (congrFun (W4_args m ρ c main_arg13 (by decide)) _))
  refine (congrFun (at_v15 m ρ c) (ix1 b)).trans ((column_apply _ _).trans ((congrFun ((W6_arr m ρ c 13).trans (Third.final13 (V5 m ρ) c)) _).trans ?_))
  show Third.val (V5 m ρ) c b = _
  unfold Third.val
  rw [third_eq, e2, e3, e10, e11, e12]

end Cert.KernelIdeal.Chain

end
-- ==== Proof.HostOps.lean ====
/- The reference's layer, activation, normalisation and softmax as operations on whole arrays of any extents, each read at
   an index: an affine layer, the activation, a column normalisation, a row softmax, and the batched pick of one column
   per row. -/
module

public import proofs.«01_k».proof.Proof.Vec
public import Idealize.ShloMosaic.Lib.IdealHost
public import Idealize.ShloMosaic.Lib.KernelVsHost
public import Idealize.ShloMosaic.Lib.ReduceAll
public import Idealize.ShloMosaic.Lib.StackMember
public import Idealize.ShloMosaic.Lib.ValueIdxCore

@[expose] public section

noncomputable section

namespace Cert.Hosted

open Idealize.ShloMosaic Idealize.ShloMosaic.ValueIdx Cert.Alg

/-- The shape of a scalar. -/
abbrev Sc : Shape := ⟨0, ![]⟩

/-! ## Broadcasts -/

/-- A vector laid along the columns of a single row. -/
theorem toRow {α : Type} {J : ℕ} (x : (⟨1, ![J]⟩ : Shape).Idx → α) (h : (⟨1, ![J]⟩ : Shape).BroadcastsInDim ⟨2, ![1, J]⟩ ![1])
    (u : Fin 1) (j : Fin J) : broadcastInDim ⟨2, ![1, J]⟩ ![1] h x (ix2 u j) = x (ix1 j) := by
  refine broadcastInDim_apply _ h x (ix2 u j) (ix1 j) fun a => ?_
  match a with
  | ⟨0, _⟩ =>
    show j.val = if J = 1 then 0 else j.val
    split_ifs with h1
    · have := j.isLt; omega
    · rfl

/-- A single row repeated down the rows. -/
theorem down {α : Type} {M J : ℕ} (x : (⟨2, ![1, J]⟩ : Shape).Idx → α)
    (h : (⟨2, ![1, J]⟩ : Shape).BroadcastsInDim ⟨2, ![M, J]⟩ ![0, 1]) (r : Fin M) (j : Fin J) :
    broadcastInDim ⟨2, ![M, J]⟩ ![0, 1] h x (ix2 r j) = x (ix2 0 j) := by
  refine broadcastInDim_apply _ h x (ix2 r j) (ix2 0 j) fun a => ?_
  match a with
  | ⟨0, _⟩ => rfl
  | ⟨1, _⟩ =>
    show j.val = if J = 1 then 0 else j.val
    split_ifs with h1
    · have := j.isLt; omega
    · rfl

/-- A vector stood up as a single column. -/
theorem toCol {α : Type} {M : ℕ} (x : (⟨1, ![M]⟩ : Shape).Idx → α) (h : (⟨1, ![M]⟩ : Shape).BroadcastsInDim ⟨2, ![M, 1]⟩ ![0])
    (r : Fin M) (u : Fin 1) : broadcastInDim ⟨2, ![M, 1]⟩ ![0] h x (ix2 r u) = x (ix1 r) := by
  refine broadcastInDim_apply _ h x (ix2 r u) (ix1 r) fun a => ?_
  match a with
  | ⟨0, _⟩ =>
    show r.val = if M = 1 then 0 else r.val
    split_ifs with h1
    · have := r.isLt; omega
    · rfl

/-- A single column repeated across the columns. -/
theorem sideways {α : Type} {M J : ℕ} (x : (⟨2, ![M, 1]⟩ : Shape).Idx → α)
    (h : (⟨2, ![M, 1]⟩ : Shape).BroadcastsInDim ⟨2, ![M, J]⟩ ![0, 1]) (r : Fin M) (j : Fin J) :
    broadcastInDim ⟨2, ![M, J]⟩ ![0, 1] h x (ix2 r j) = x (ix2 r 0) := by
  refine broadcastInDim_apply _ h x (ix2 r j) (ix2 r 0) fun a => ?_
  match a with
  | ⟨0, _⟩ =>
    show r.val = if M = 1 then 0 else r.val
    split_ifs with h1
    · have := r.isLt; omega
    · rfl
  | ⟨1, _⟩ => rfl

/-! ## Sums and maxima -/

/-- A column's sum. -/
theorem colSum {M J : ℕ} (x : FVec Ideal ⟨2, ![M, J]⟩ .f32) (h : (⟨2, ![M, J]⟩ : Shape).ReducesTo [0] ⟨1, ![J]⟩)
    (h' : (⟨2, ![M, J]⟩ : Shape).Reduces [0] ⟨1, ![J]⟩) (hu : 0 < Sc.numel) (j : Fin J) :
    Host.reduceAdd x (constant Sc .f32 0x00000000#32) h hu (ix1 j) = ∑ r, x (ix2 r j) := by
  simp only [Host.reduceAdd, Ideal.hostReduceAdd_def]
  rw [Ideal.hostReduceAdd_single h h']
  show Ideal.ofBits .f32 0x00000000#32 + _ = _
  rw [Ideal.ofBits_zero_f32, zero_add]
  refine Finset.sum_congr rfl fun r _ => congrArg x (funext fun a => Fin.ext ?_)
  match a with
  | ⟨0, _⟩ => rfl
  | ⟨1, _⟩ => rfl

/-- A row's sum. -/
theorem rowSum {M J : ℕ} (x : FVec Ideal ⟨2, ![M, J]⟩ .f32) (h : (⟨2, ![M, J]⟩ : Shape).ReducesTo [1] ⟨1, ![M]⟩)
    (h' : (⟨2, ![M, J]⟩ : Shape).Reduces [1] ⟨1, ![M]⟩) (hu : 0 < Sc.numel) (r : Fin M) :
    Host.reduceAdd x (constant Sc .f32 0x00000000#32) h hu (ix1 r) = ∑ j, x (ix2 r j) := by
  simp only [Host.reduceAdd, Ideal.hostReduceAdd_def]
  rw [Ideal.hostReduceAdd_single h h']
  show Ideal.ofBits .f32 0x00000000#32 + _ = _
  rw [Ideal.ofBits_zero_f32, zero_add]
  refine Finset.sum_congr rfl fun j _ => congrArg x (funext fun a => Fin.ext ?_)
  match a with
  | ⟨0, _⟩ => rfl
  | ⟨1, _⟩ => rfl

/-- A row's maximum, once more compared with `-∞`. -/
theorem rowTop {M J : ℕ} (x : FVec Ideal ⟨2, ![M, J]⟩ .f32) (h : (⟨2, ![M, J]⟩ : Shape).ReducesTo [1] ⟨1, ![M]⟩)
    (h' : (⟨2, ![M, J]⟩ : Shape).Reduces [1] ⟨1, ![M]⟩) (hu : 0 < Sc.numel) (h0 : Sc.BroadcastsInDim ⟨1, ![M]⟩ ![]) (r : Fin M) :
    maximumf (broadcastInDim ⟨1, ![M]⟩ ![] h0 (constant Sc .f32 0xFF800000#32))
      (Host.reduce FloatOps.maximumf x (constant Sc .f32 0xFF800000#32) h hu) (ix1 r) = rowMax fun j => x (ix2 r j) := by
  have hφ : FKind.Formats .f32 := by decide
  have ha : (0xFF800000#32 : BitVec FTy.f32.bits) = FKind.maximumf.neutral .f32 hφ := rfl
  refine (congrArg (max (Ideal.ofBits .f32 0xFF800000#32)) ((congrFun (hostReduce_maximumf_eq_multiReduction x 0xFF800000#32 h hu
    h' hφ ha) (ix1 r)).trans (Vect.rowmax x h' hφ ha r))).trans ?_
  rw [Consts.neg_inf]
  exact bot_sup_eq _

/-! ## An affine layer -/

/-- A product plus a bias repeated down the rows. -/
def layer {M K J : ℕ} (x : FVec Ideal ⟨2, ![M, K]⟩ .f32) (W : FVec Ideal ⟨2, ![K, J]⟩ .f32) (b : FVec Ideal ⟨1, ![J]⟩ .f32)
    (h1 : (⟨1, ![J]⟩ : Shape).BroadcastsInDim ⟨2, ![1, J]⟩ ![1])
    (h2 : (⟨2, ![1, J]⟩ : Shape).BroadcastsInDim ⟨2, ![M, J]⟩ ![0, 1]) : FVec Ideal ⟨2, ![M, J]⟩ .f32 :=
  addf (Host.dotGeneral (DotDims.plain M K J) none x W)
    (broadcastInDim ⟨2, ![M, J]⟩ ![0, 1] h2 (broadcastInDim ⟨2, ![1, J]⟩ ![1] h1 b))

/-- It is the affine layer of each row. -/
theorem layer_apply {M K J : ℕ} (x : FVec Ideal ⟨2, ![M, K]⟩ .f32) (W : FVec Ideal ⟨2, ![K, J]⟩ .f32)
    (b : FVec Ideal ⟨1, ![J]⟩ .f32) (h1 : (⟨1, ![J]⟩ : Shape).BroadcastsInDim ⟨2, ![1, J]⟩ ![1])
    (h2 : (⟨2, ![1, J]⟩ : Shape).BroadcastsInDim ⟨2, ![M, J]⟩ ![0, 1]) (r : Fin M) (j : Fin J) :
    layer x W b h1 h2 (ix2 r j) = lin (fun k => x (ix2 r k)) (fun k j => W (ix2 k j)) (fun j => b (ix1 j)) j :=
  congrArg₂ (· + ·) (StackMember.dotGeneral_plain_apply none x W r j) ((down _ h2 r j).trans (toRow b h1 0 j))

/-! ## The activation -/

/-- The activation, entry by entry. -/
def act {s : Shape} (x : FVec Ideal s .f32) (h : Sc.BroadcastsInDim s ![]) : FVec Ideal s .f32 :=
  mulf x (mulf (broadcastInDim s ![] h (constant Sc .f32 0x3F000000#32))
    (addf (broadcastInDim s ![] h (constant Sc .f32 0x3F800000#32))
      (Host.tanh (mulf (broadcastInDim s ![] h (constant Sc .f32 0x3F4C422A#32))
        (addf x (mulf (broadcastInDim s ![] h (constant Sc .f32 0x3D372713#32)) (mulf (mulf x x) x)))))))

/-- Its entries. -/
theorem act_apply {s : Shape} (x : FVec Ideal s .f32) (h : Sc.BroadcastsInDim s ![]) (i : s.Idx) : act x h i = gelu (x i) := by
  show x i * (Ideal.ofBits .f32 0x3F000000#32 * (Ideal.ofBits .f32 0x3F800000#32
    + Ideal.tanh (Ideal.ofBits .f32 0x3F4C422A#32 * (x i + Ideal.ofBits .f32 0x3D372713#32 * (x i * x i * x i))))) = _
  rw [mul_comm (x i * x i) (x i)]
  rfl

/-! ## A column normalisation -/

section Normalise
variable {J : ℕ} (x : FVec Ideal ⟨2, ![32768, J]⟩ .f32) (h0 : Sc.BroadcastsInDim ⟨2, ![1, J]⟩ ![])
  (h1 : (⟨1, ![J]⟩ : Shape).BroadcastsInDim ⟨2, ![1, J]⟩ ![1])
  (h2 : (⟨2, ![1, J]⟩ : Shape).BroadcastsInDim ⟨2, ![32768, J]⟩ ![0, 1])
  (h : (⟨2, ![32768, J]⟩ : Shape).ReducesTo [0] ⟨1, ![J]⟩) (hu : 0 < Sc.numel)

/-- The columns' means, as a single row. -/
def mean : FVec Ideal ⟨2, ![1, J]⟩ .f32 :=
  Host.divf (broadcastInDim ⟨2, ![1, J]⟩ ![1] h1 (Host.reduceAdd x (constant Sc .f32 0x00000000#32) h hu))
    (broadcastInDim ⟨2, ![1, J]⟩ ![] h0 (constant Sc .f32 0x47000000#32))

/-- The entries less their columns' means. -/
def centred : FVec Ideal ⟨2, ![32768, J]⟩ .f32 :=
  subf x (broadcastInDim ⟨2, ![32768, J]⟩ ![0, 1] h2 (mean x h0 h1 h hu))

/-- What the variance divides by: the number of rows less a correction, which is nought. -/
def count : FVec Ideal Sc .f32 := subf (constant Sc .f32 0x47000000#32) (sitofp .f32 (constantI Sc 32 0#32))

/-- The columns' variances, as a single row, guarded against a count that is not positive. -/
def variance : FVec Ideal ⟨2, ![1, J]⟩ .f32 :=
  select (broadcastInDim ⟨2, ![1, J]⟩ ![] h0 (cmpf .ogt count (constant Sc .f32 0x00000000#32)))
    (Host.divf (broadcastInDim ⟨2, ![1, J]⟩ ![1] h1
        (Host.reduceAdd (mulf (centred x h0 h1 h2 h hu) (centred x h0 h1 h2 h hu)) (constant Sc .f32 0x00000000#32) h hu))
      (broadcastInDim ⟨2, ![1, J]⟩ ![] h0 count))
    (broadcastInDim ⟨2, ![1, J]⟩ ![] h0 (id (constant Sc .f32 0x7FC00000#32)))

/-- The normalised array. -/
def normal : FVec Ideal ⟨2, ![32768, J]⟩ .f32 :=
  Host.divf (centred x h0 h1 h2 h hu) (broadcastInDim ⟨2, ![32768, J]⟩ ![0, 1] h2
    (Host.sqrt (addf (variance x h0 h1 h2 h hu) (broadcastInDim ⟨2, ![1, J]⟩ ![] h0 (constant Sc .f32 0x3727C5AC#32)))))

/-- The count is 32768, -/
theorem count_eq : count ix0 = Ideal.ofBits .f32 0x47000000#32 := by
  show Ideal.ofBits .f32 0x47000000#32 - (Scalar.sitofp .f32 0#32 : Ideal .f32) = _
  rw [sitofp_zero, Consts.rows, sub_zero]

/-- so it is positive. -/
theorem count_pos : cmpf .ogt count (constant Sc .f32 0x00000000#32) ix0 = 1#1 := by
  show Ideal.cmp .ogt (count ix0) (Ideal.ofBits .f32 0x00000000#32) = 1#1
  rw [count_eq, Consts.rows, Ideal.ofBits_zero_f32]
  simp [Ideal.cmp]

variable (h' : (⟨2, ![32768, J]⟩ : Shape).Reduces [0] ⟨1, ![J]⟩)
include h'

/-- A column's mean. -/
theorem mean_apply (u : Fin 1) (j : Fin J) : mean x h0 h1 h hu (ix2 u j) = rmean fun r => x (ix2 r j) :=
  congrArg₂ Ideal.div ((toRow _ h1 u j).trans (colSum x h h' hu j)) (broadcastInDim_scalar_apply h0 _ _)

/-- An entry less its column's mean. -/
theorem centred_apply (r : Fin 32768) (j : Fin J) :
    centred x h0 h1 h2 h hu (ix2 r j) = x (ix2 r j) - rmean fun r => x (ix2 r j) :=
  congrArg (x (ix2 r j) - ·) ((down _ h2 r j).trans (mean_apply x h0 h1 h hu h' 0 j))

/-- A column's variance. -/
theorem variance_apply (u : Fin 1) (j : Fin J) : variance x h0 h1 h2 h hu (ix2 u j) = rvar fun r => x (ix2 r j) := by
  have e : broadcastInDim ⟨2, ![1, J]⟩ ![] h0 (cmpf .ogt count (constant Sc .f32 0x00000000#32)) (ix2 u j) = 1#1 :=
    (broadcastInDim_scalar_apply h0 _ _).trans count_pos
  unfold variance
  rw [select_apply, e]
  refine (if_pos rfl).trans (congrArg₂ Ideal.div ((toRow _ h1 u j).trans ((colSum _ h h' hu j).trans ?_))
    ((broadcastInDim_scalar_apply h0 _ _).trans count_eq))
  exact Finset.sum_congr rfl fun r _ =>
    congrArg₂ (· * ·) (centred_apply x h0 h1 h2 h hu h' r j) (centred_apply x h0 h1 h2 h hu h' r j)

/-- An entry of the normalised array. -/
theorem normal_apply (r : Fin 32768) (j : Fin J) : normal x h0 h1 h2 h hu (ix2 r j) = rnorm (fun r => x (ix2 r j)) r :=
  congrArg₂ Ideal.div (centred_apply x h0 h1 h2 h hu h' r j) ((down _ h2 r j).trans
    (congrArg Ideal.sqrt (congrArg₂ (· + ·) (variance_apply x h0 h1 h2 h hu h' 0 j) (broadcastInDim_scalar_apply h0 _ _))))

end Normalise

/-! ## A row softmax -/

section Soft
variable {M J : ℕ} (x : FVec Ideal ⟨2, ![M, J]⟩ .f32) (h0 : Sc.BroadcastsInDim ⟨1, ![M]⟩ ![])
  (h1 : (⟨1, ![M]⟩ : Shape).BroadcastsInDim ⟨2, ![M, 1]⟩ ![0])
  (h2 : (⟨2, ![M, 1]⟩ : Shape).BroadcastsInDim ⟨2, ![M, J]⟩ ![0, 1])
  (h : (⟨2, ![M, J]⟩ : Shape).ReducesTo [1] ⟨1, ![M]⟩) (hu : 0 < Sc.numel)

/-- The exponentials of the entries less their rows' maxima. -/
def expos : FVec Ideal ⟨2, ![M, J]⟩ .f32 :=
  Host.exp (subf x (broadcastInDim ⟨2, ![M, J]⟩ ![0, 1] h2 (broadcastInDim ⟨2, ![M, 1]⟩ ![0] h1
    (maximumf (broadcastInDim ⟨1, ![M]⟩ ![] h0 (constant Sc .f32 0xFF800000#32))
      (Host.reduce FloatOps.maximumf x (constant Sc .f32 0xFF800000#32) h hu)))))

/-- Each over its row's sum. -/
def soft : FVec Ideal ⟨2, ![M, J]⟩ .f32 :=
  Host.divf (expos x h0 h1 h2 h hu) (broadcastInDim ⟨2, ![M, J]⟩ ![0, 1] h2 (broadcastInDim ⟨2, ![M, 1]⟩ ![0] h1
    (Host.reduceAdd (expos x h0 h1 h2 h hu) (constant Sc .f32 0x00000000#32) h hu)))

variable (h' : (⟨2, ![M, J]⟩ : Shape).Reduces [1] ⟨1, ![M]⟩)
include h'

/-- An exponential. -/
theorem expos_apply (r : Fin M) (j : Fin J) : expos x h0 h1 h2 h hu (ix2 r j) = expo (fun k => x (ix2 r k)) j :=
  congrArg (fun t => Ideal.exp (x (ix2 r j) - t)) ((sideways _ h2 r j).trans ((toCol _ h1 r 0).trans (rowTop x h h' hu h0 r)))

/-- A probability. -/
theorem soft_apply (r : Fin M) (j : Fin J) : soft x h0 h1 h2 h hu (ix2 r j)
      = Ideal.div (expo (fun k => x (ix2 r k)) j) (expoSum fun k => x (ix2 r k)) :=
  congrArg₂ Ideal.div (expos_apply x h0 h1 h2 h hu h' r j) ((sideways _ h2 r j).trans ((toCol _ h1 r 0).trans
    ((rowSum _ h h' hu r).trans (Finset.sum_congr rfl fun k _ => expos_apply x h0 h1 h2 h hu h' r k))))

end Soft

/-! ## One column per row -/

/-- The dimension numbers of the pick of one column of each row: rows are batched, columns indexed. -/
abbrev pickDims (B C : ℕ) (wf : GatherDims.WF ⟨2, ![B, C]⟩ ⟨3, ![B, 1, 1]⟩ ⟨2, ![B, 1]⟩ [] [1] [0] [1] [0] 2 ![1, 1]) :
    GatherDims ⟨2, ![B, C]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- The pick from row `b` is the entry at the column its index names, when that lies within the row. -/
theorem pick_apply {α : Type} {B C w : ℕ}
    (wf : GatherDims.WF ⟨2, ![B, C]⟩ ⟨3, ![B, 1, 1]⟩ ⟨2, ![B, 1]⟩ [] [1] [0] [1] [0] 2 ![1, 1])
    (x : (⟨2, ![B, C]⟩ : Shape).Idx → α) (idx : IVec ⟨3, ![B, 1, 1]⟩ w) (b : Fin B) (u : Fin 1) (k : Fin C)
    (hk : (idx (ix3 b 0 0)).toInt = (k.val : ℤ)) :
    Host.gather (pickDims B C wf) x idx (ix2 b u) = x (ix2 b k) := by
  unfold Host.gather
  refine congrArg x (funext fun a => Fin.ext ?_)
  show (pickDims B C wf).start (ix2 b u) idx a + (pickDims B C wf).batchCoord (ix2 b u) a
    + (pickDims B C wf).offCoord (ix2 b u) a = _
  match a with
  | ⟨0, _⟩ =>
    show (pickDims B C wf).start (ix2 b u) idx (0 : Fin 2) + (pickDims B C wf).batchCoord (ix2 b u) (0 : Fin 2)
      + (pickDims B C wf).offCoord (ix2 b u) (0 : Fin 2) = b.val
    rw [GatherDims.start_batching _ _ _ _ (List.mem_singleton.mpr rfl),
      GatherDims.offCoord_eq_zero _ _ _ fun hm => ((GatherDims.mem_sKept _ _).mp hm).2 (List.mem_singleton.mpr rfl)]
    unfold GatherDims.batchCoord
    rw [dif_pos (List.mem_singleton.mpr rfl)]
    simp only [Nat.zero_add, Nat.add_zero]
    rfl
  | ⟨1, _⟩ =>
    show (pickDims B C wf).start (ix2 b u) idx (1 : Fin 2) + (pickDims B C wf).batchCoord (ix2 b u) (1 : Fin 2)
      + (pickDims B C wf).offCoord (ix2 b u) (1 : Fin 2) = k.val
    rw [GatherDims.batchCoord_eq_zero _ _ _ fun hm => by simp at hm,
      GatherDims.offCoord_eq_zero _ _ _ fun hm => ((GatherDims.mem_sKept _ _).mp hm).1 (List.mem_singleton.mpr rfl)]
    unfold GatherDims.start
    rw [dif_pos (show (1 : Fin 2) ∈ (pickDims B C wf).startIndexMap from List.mem_singleton.mpr rfl)]
    have e : (pickDims B C wf).siIdx (ix2 b u) ⟨List.idxOf (1 : Fin 2) (pickDims B C wf).startIndexMap,
        List.idxOf_lt_length_iff.2 (List.mem_singleton.mpr rfl)⟩ = ix3 b 0 0 := by
      funext d; refine Fin.ext ?_
      match d with
      | ⟨0, _⟩ => rfl
      | ⟨1, _⟩ => exact Nat.lt_one_iff.mp u.isLt
      | ⟨2, _⟩ => rfl
    rw [e, hk]
    show min ((k.val : ℤ).toNat) (C - 1) = k.val
    have := k.isLt
    rw [Int.toNat_natCast]; omega

end Cert.Hosted

end
-- ==== Proof.RefHidden.lean ====
/- THE REFERENCE'S SHARED LAYERS read at an index: the two players' rows stacked, then the two layers with their
   normalisations. -/
module

public import proofs.«01_k».proof.Proof.HostOps
public import proofs.«01_k».proof.Proof.Network
public import proofs.«01_k».proof.Proof.Gen.ReferenceIdeal.Read

@[expose] public section

set_option maxRecDepth 16384

noncomputable section

namespace Cert.ReferenceIdeal.Hidden

open Idealize.ShloMosaic Idealize.ShloMosaic.ValueIdx
open Cert.ReferenceIdeal Cert.ReferenceIdeal.Gen Cert.ReferenceIdeal.Read Cert.Alg

variable (x0 x1 : FVec Ideal S16384x2x128 .f32) (x2 : FVec Ideal S256x512 .f32) (x3 : FVec Ideal S512 .f32)
  (x4 : FVec Ideal S512x256 .f32) (x5 : FVec Ideal S256 .f32)

/-! ## The stacked inputs -/

/-- A row of the stacked inputs is a player's row of its batch element. -/
theorem stacked_apply {α : Type} (x : S16384x2x128.Idx → α) (p : Fin 2) (b : Fin 16384) (k : Fin 128) :
    shapeCast S32768x128 x shapeCasts_S16384x2x128_S32768x128 (ix2 (row p b) k) = x (ix3 b p k) := by
  refine shapeCast_apply x _ (ix2 (row p b) k) (ix3 b p k) ?_
  rw [Shape.rowMajor_val_three, Shape.rowMajor_val_two]
  show (b.val * 2 + p.val) * 128 + k.val = (2 * b.val + p.val) * 128 + k.val
  omega

/-- The row of states and beliefs of player `p` of batch element `b`. -/
theorem input_apply (p : Fin 2) (b : Fin 16384) (k : Fin 256) :
    val_main_v2 (F := Ideal) x0 x1 (ix2 (row p b) k)
      = if h : k.val < 128 then x0 (ix3 b p ⟨k.val, h⟩) else x1 (ix3 b p ⟨k.val - 128, by have := k.isLt; omega⟩) := by
  unfold val_main_v2
  split_ifs with h
  · refine (concatenate_pair_apply_left 1 (val_main_v0 (F := Ideal) x0) (val_main_v1 (F := Ideal) x1) _ (ix2 (row p b) k) rfl
      (ix2 (row p b) (⟨k.val, h⟩ : Fin 128)) fun a => ?_).trans
      (stacked_apply x0 p b ⟨k.val, h⟩)
    match a with
    | ⟨0, _⟩ => rfl
    | ⟨1, _⟩ => rfl
  · refine (concatenate_pair_apply_right 1 (val_main_v0 (F := Ideal) x0) (val_main_v1 (F := Ideal) x1) _ (ix2 (row p b) k) rfl rfl
      (ix2 (row p b) (⟨k.val - 128, by have := k.isLt; omega⟩ : Fin 128)) (fun a ha => ?_) ?_).trans (stacked_apply x1 p b _)
    · match a with
      | ⟨0, _⟩ => rfl
      | ⟨1, _⟩ => exact absurd rfl ha
    · show k.val - 128 + 128 = k.val
      omega

/-! ## The layers -/

/-- The first layer, -/
theorem first_lin : val_main_v6 (F := Ideal) x0 x1 x2 x3
    = Hosted.layer (val_main_v2 (F := Ideal) x0 x1) x2 x3 bcast_S512_S1x512_1 bcast_S1x512_S32768x512_0_1 := rfl
/-- its activation -/
theorem first_act : val_main_v19 (F := Ideal) x0 x1 x2 x3
    = Hosted.act (val_main_v6 (F := Ideal) x0 x1 x2 x3) bcast_S_S32768x512 := rfl
/-- and its normalisation. -/
theorem first_norm : val_main_v31 (F := Ideal) x0 x1 x2 x3
    = Hosted.normal (val_main_v19 (F := Ideal) x0 x1 x2 x3) bcast_S_S1x512 bcast_S512_S1x512_1 bcast_S1x512_S32768x512_0_1
        reducesTo_S32768x512_S512_d0 h_S_ := rfl
/-- The second layer, -/
theorem second_lin : val_main_v35 (F := Ideal) x0 x1 x2 x3 x4 x5
    = Hosted.layer (val_main_v31 (F := Ideal) x0 x1 x2 x3) x4 x5 bcast_S256_S1x256_1 bcast_S1x256_S32768x256_0_1 := rfl
/-- its activation -/
theorem second_act : val_main_v48 (F := Ideal) x0 x1 x2 x3 x4 x5
    = Hosted.act (val_main_v35 (F := Ideal) x0 x1 x2 x3 x4 x5) bcast_S_S32768x256 := rfl
/-- and its normalisation. -/
theorem second_norm : val_main_v60 (F := Ideal) x0 x1 x2 x3 x4 x5
    = Hosted.normal (val_main_v48 (F := Ideal) x0 x1 x2 x3 x4 x5) bcast_S_S1x256 bcast_S256_S1x256_1 bcast_S1x256_S32768x256_0_1
        reducesTo_S32768x256_S256_d0 h_S_ := rfl

/-- A layer's activation and normalisation, read at an index, when what it is fed is known row by row. -/
theorem block_apply {K J : ℕ} (x : FVec Ideal ⟨2, ![32768, K]⟩ .f32) (W : FVec Ideal ⟨2, ![K, J]⟩ .f32)
    (b : FVec Ideal ⟨1, ![J]⟩ .f32) (ha : Hosted.Sc.BroadcastsInDim ⟨2, ![32768, J]⟩ ![])
    (h0 : Hosted.Sc.BroadcastsInDim ⟨2, ![1, J]⟩ ![]) (h1 : (⟨1, ![J]⟩ : Shape).BroadcastsInDim ⟨2, ![1, J]⟩ ![1])
    (h2 : (⟨2, ![1, J]⟩ : Shape).BroadcastsInDim ⟨2, ![32768, J]⟩ ![0, 1])
    (h : (⟨2, ![32768, J]⟩ : Shape).ReducesTo [0] ⟨1, ![J]⟩) (hu : 0 < Hosted.Sc.numel)
    (h' : (⟨2, ![32768, J]⟩ : Shape).Reduces [0] ⟨1, ![J]⟩) (Y : Fin 32768 → Fin K → EReal)
    (hx : ∀ r k, x (ix2 r k) = Y r k) (r : Fin 32768) (j : Fin J) :
    Hosted.normal (Hosted.act (Hosted.layer x W b h1 h2) ha) h0 h1 h2 h hu (ix2 r j)
      = rcols (layer Y (fun k j => W (ix2 k j)) fun j => b (ix1 j)) r j := by
  refine (Hosted.normal_apply _ h0 h1 h2 h hu h' r j).trans ?_
  refine congrArg (fun f => rnorm f r) (funext fun i => (Hosted.act_apply _ ha _).trans (congrArg gelu ?_))
  refine (Hosted.layer_apply x W b h1 h2 i j).trans ?_
  exact congrArg (fun y => lin y _ _ j) (funext fun k => hx i k)

/-- The reference's stacked inputs, by row and column. -/
def stacked (r : Fin 32768) (k : Fin 256) : EReal := val_main_v2 (F := Ideal) x0 x1 (ix2 r k)

/-- The reference's rows after both layers. -/
def rows : Fin 32768 → Fin 256 → EReal :=
  rnet (stacked x0 x1) (fun k j => x2 (ix2 k j)) (fun j => x3 (ix1 j)) (fun k j => x4 (ix2 k j)) fun j => x5 (ix1 j)

/-- What the second normalisation leaves. -/
theorem rows_apply (r : Fin 32768) (j : Fin 256) : val_main_v60 (F := Ideal) x0 x1 x2 x3 x4 x5 (ix2 r j) = rows x0 x1 x2 x3 x4 x5 r j := by
  rw [second_norm, second_act, second_lin]
  refine block_apply _ x4 x5 _ _ _ _ _ _ (by decide) (rcols (layer (stacked x0 x1) (fun k j => x2 (ix2 k j)) fun j => x3 (ix1 j))) (fun r k => ?_) r j
  rw [first_norm, first_act, first_lin]
  exact block_apply _ x2 x3 _ _ _ _ _ _ (by decide) (stacked x0 x1) (fun _ _ => rfl) r k

end Cert.ReferenceIdeal.Hidden

end
-- ==== Proof.RefHeads.lean ====
/- THE REFERENCE'S RESULTS read at an index: the log-probability of the action, the entropy and the value, from the rows
   the shared layers leave. -/
module

public import proofs.«01_k».proof.Proof.RefHidden
public import proofs.«01_k».proof.Proof.Heads

@[expose] public section

set_option maxRecDepth 16384

noncomputable section

namespace Cert.ReferenceIdeal.Heads

open Idealize.ShloMosaic Idealize.ShloMosaic.ValueIdx
open Cert.ReferenceIdeal Cert.ReferenceIdeal.Gen Cert.ReferenceIdeal.Read Cert.Alg

variable (x0 x1 : FVec Ideal S16384x2x128 .f32) (x2 : FVec Ideal S256x512 .f32) (x3 : FVec Ideal S512 .f32)
  (x4 : FVec Ideal S512x256 .f32) (x5 : FVec Ideal S256 .f32) (x6 : FVec Ideal S256x20 .f32) (x7 : FVec Ideal S20 .f32)
  (x10 : FVec Ideal S512x256 .f32) (x11 : FVec Ideal S256 .f32) (x12 : FVec Ideal S256x1 .f32) (x13 : FVec Ideal S1 .f32)
  (x14 : IVec S16384 32)

/-- The row of player `p` of batch element `b`. -/
def player (p : Fin 2) (b : Fin 16384) : Fin 256 → EReal := Hidden.rows x0 x1 x2 x3 x4 x5 (row p b)

/-! ## The rows the heads read -/

/-- The rows parted by player. -/
theorem parted_apply (p : Fin 2) (b : Fin 16384) (k : Fin 256) :
    val_main_v61 (F := Ideal) x0 x1 x2 x3 x4 x5 (ix3 b p k) = player x0 x1 x2 x3 x4 x5 p b k := by
  refine (shapeCast_apply _ _ (ix3 b p k) (ix2 (row p b) k) ?_).trans (Hidden.rows_apply x0 x1 x2 x3 x4 x5 (row p b) k)
  rw [Shape.rowMajor_val_three, Shape.rowMajor_val_two]
  show (2 * b.val + p.val) * 256 + k.val = (b.val * 2 + p.val) * 256 + k.val
  omega

/-- The first player's rows. -/
theorem own_apply (b : Fin 16384) (k : Fin 256) :
    val_main_v63 (F := Ideal) x0 x1 x2 x3 x4 x5 (ix2 b k) = player x0 x1 x2 x3 x4 x5 0 b k := by
  refine (shapeCast_apply _ _ (ix2 b k) (ix3 b 0 k) ?_).trans ?_
  · rw [Shape.rowMajor_val_three, Shape.rowMajor_val_two]
    show (b.val * 1 + 0) * 256 + k.val = b.val * 256 + k.val
    omega
  · refine (extractStridedSlice_apply _ _ _ (ix3 b 0 k) (ix3 b 0 k) fun a => ?_).trans (parted_apply x0 x1 x2 x3 x4 x5 0 b k)
    match a with
    | ⟨0, _⟩ => show b.val = 0 + b.val; omega
    | ⟨1, _⟩ => rfl
    | ⟨2, _⟩ => show k.val = 0 + k.val; omega

/-- Column `k` of player `p` among the two players' columns side by side. -/
abbrev side (p : Fin 2) (k : Fin 256) : Fin 512 := ⟨256 * p.val + k.val, by have := p.isLt; have := k.isLt; omega⟩

/-- Both players' rows side by side. -/
theorem both_apply (p : Fin 2) (b : Fin 16384) (k : Fin 256) :
    val_main_v101 (F := Ideal) x0 x1 x2 x3 x4 x5 (ix2 b (side p k)) = player x0 x1 x2 x3 x4 x5 p b k := by
  refine (shapeCast_apply _ _ (ix2 b (side p k)) (ix3 b p k) ?_).trans (parted_apply x0 x1 x2 x3 x4 x5 p b k)
  rw [Shape.rowMajor_val_three, Shape.rowMajor_val_two]
  show (b.val * 2 + p.val) * 256 + k.val = b.val * 512 + (256 * p.val + k.val)
  omega

/-! ## The actor -/

/-- A batch element's logits. -/
def logits (b : Fin 16384) : Fin 20 → EReal :=
  lin (player x0 x1 x2 x3 x4 x5 0 b) (fun k j => x6 (ix2 k j)) fun j => x7 (ix1 j)

/-- The actor's product and bias. -/
theorem logits_apply (b : Fin 16384) (k : Fin 20) :
    val_main_v67 (F := Ideal) x0 x1 x2 x3 x4 x5 x6 x7 (ix2 b k) = logits x0 x1 x2 x3 x4 x5 x6 x7 b k := by
  have e : val_main_v67 (F := Ideal) x0 x1 x2 x3 x4 x5 x6 x7 = Hosted.layer (val_main_v63 (F := Ideal) x0 x1 x2 x3 x4 x5) x6 x7
      bcast_S20_S1x20_1 bcast_S1x20_S16384x20_0_1 := rfl
  rw [e]
  refine (Hosted.layer_apply _ x6 x7 _ _ b k).trans ?_
  exact congrArg (fun y => lin y _ _ k) (funext fun i => own_apply x0 x1 x2 x3 x4 x5 b i)

/-- The probabilities. -/
theorem prob_apply (b : Fin 16384) (k : Fin 20) :
    val_main_v78 (F := Ideal) x0 x1 x2 x3 x4 x5 x6 x7 (ix2 b k)
      = Ideal.div (expo (logits x0 x1 x2 x3 x4 x5 x6 x7 b) k) (expoSum (logits x0 x1 x2 x3 x4 x5 x6 x7 b)) := by
  have e : val_main_v78 (F := Ideal) x0 x1 x2 x3 x4 x5 x6 x7 = Hosted.soft (val_main_v67 (F := Ideal) x0 x1 x2 x3 x4 x5 x6 x7)
      bcast_S_S16384 bcast_S16384_S16384x1_0 bcast_S16384x1_S16384x20_0_1 reducesTo_S16384x20_S16384_d1 h_S_ := rfl
  rw [e]
  refine (Hosted.soft_apply _ _ _ _ _ _ (by decide) b k).trans ?_
  rw [show (fun j => val_main_v67 (F := Ideal) x0 x1 x2 x3 x4 x5 x6 x7 (ix2 b j)) = logits x0 x1 x2 x3 x4 x5 x6 x7 b from
    funext fun j => logits_apply x0 x1 x2 x3 x4 x5 x6 x7 b j]

/-- Their logarithms. -/
theorem logprob_apply (b : Fin 16384) (k : Fin 20) :
    val_main_v94 (F := Ideal) x0 x1 x2 x3 x4 x5 x6 x7 (ix2 b k) = logp (logits x0 x1 x2 x3 x4 x5 x6 x7 b) k := by
  rw [val_main_v94_apply, prob_apply]
  exact logSoftmax _ k

/-- The entropy. -/
theorem ent_eq (b : Fin 16384) :
    val_main_v100 (F := Ideal) x0 x1 x2 x3 x4 x5 x6 x7 (ix1 b) = kent (logits x0 x1 x2 x3 x4 x5 x6 x7 b) := by
  have e : val_main_v99 (F := Ideal) x0 x1 x2 x3 x4 x5 x6 x7 (ix1 b) = ∑ k, Ideal.div (expo (logits x0 x1 x2 x3 x4 x5 x6 x7 b) k)
      (expoSum (logits x0 x1 x2 x3 x4 x5 x6 x7 b)) * logp (logits x0 x1 x2 x3 x4 x5 x6 x7 b) k :=
    (Hosted.rowSum (val_main_v98 (F := Ideal) x0 x1 x2 x3 x4 x5 x6 x7) _ (by decide) _ b).trans (Finset.sum_congr rfl fun k _ =>
      congrArg₂ (· * ·) (prob_apply x0 x1 x2 x3 x4 x5 x6 x7 b k) (logprob_apply x0 x1 x2 x3 x4 x5 x6 x7 b k))
  show - val_main_v99 (F := Ideal) x0 x1 x2 x3 x4 x5 x6 x7 (ix1 b) = _
  rw [e]
  unfold kent
  rw [Ideal.ofBits_zero_f32, zero_sub]

/-! ## The action's log-probability -/

/-- What the program checks of an action, where it is below 20: it is not negative, so it is not shifted, and it lies
    within the columns. -/
theorem word (k : Fin 20) : IntOp.cmpi .slt (BitVec.ofNat 32 k.val) 0#32 = 0#1 ∧ IntOp.cmpi .sge (BitVec.ofNat 32 k.val) 0#32 = 1#1
    ∧ IntOp.cmpi .sle (BitVec.ofNat 32 k.val) 19#32 = 1#1 ∧ (BitVec.ofNat 32 k.val).toInt = (k.val : ℤ) := by
  revert k; decide

/-- The column index is the action. -/
theorem index_apply (b : Fin 16384) (u v : Fin 1) (k : Fin 20) (h : x14 (ix1 b) = BitVec.ofNat 32 k.val) :
    val_main_call2_v5 (F := Ideal) x14 (ix3 b u v) = BitVec.ofNat 32 k.val := by
  have e : val_main_v95 (F := Ideal) x14 (ix2 b 0) = BitVec.ofNat 32 k.val := (Hosted.toCol x14 _ b 0).trans h
  refine (shapeCast_apply _ _ (ix3 b u v) (ix2 b 0) ?_).trans ?_
  · rw [Shape.rowMajor_val_three, Shape.rowMajor_val_two]
    show b.val * 1 + 0 = (b.val * 1 + u.val) * 1 + v.val
    have := u.isLt; have := v.isLt; omega
  · show Scalar.select (IntOp.cmpi .slt (val_main_v95 (F := Ideal) x14 (ix2 b 0)) 0#32) _ (val_main_v95 (F := Ideal) x14 (ix2 b 0)) = _
    rw [e, (word k).1]
    rfl

/-- Every index passes the check that it lies within the columns. -/
theorem within (h : ∀ b, ∃ k : Fin 20, x14 (ix1 b) = BitVec.ofNat 32 k.val) (i : S16384x1x1.Idx) :
    val_main_call2_v11 (F := Ideal) x14 i = 1#1 := by
  have hi : i = ix3 (i 0 : Fin 16384) (i 1 : Fin 1) (i 2 : Fin 1) := eq_ix3 i
  generalize (i 0 : Fin 16384) = b at hi
  generalize (i 1 : Fin 1) = u at hi
  generalize (i 2 : Fin 1) = v at hi
  subst hi
  obtain ⟨k, hk⟩ := h b
  show IntOp.andi (IntOp.cmpi .sge (val_main_call2_v5 (F := Ideal) x14 (ix3 b u v)) 0#32)
    (IntOp.cmpi .sle (val_main_call2_v5 (F := Ideal) x14 (ix3 b u v)) 19#32) = 1#1
  rw [index_apply x14 b u v k hk, (word k).2.1, (word k).2.2.1]
  rfl

/-- The action's log-probability, for actions below 20. -/
theorem alp_eq (h : ∀ b, ∃ k : Fin 20, x14 (ix1 b) = BitVec.ofNat 32 k.val) (b : Fin 16384) :
    val_main_v97 (F := Ideal) x0 x1 x2 x3 x4 x5 x6 x7 x14 (ix1 b) = kalp (logits x0 x1 x2 x3 x4 x5 x6 x7 b) (x14 (ix1 b)) := by
  obtain ⟨k, hk⟩ := h b
  rw [kalp_eq _ _ k hk]
  refine (shapeCast_apply _ _ (ix1 b) (ix2 b 0) ?_).trans ?_
  · rw [Shape.rowMajor_val_one, Shape.rowMajor_val_two]
    show b.val * 1 + 0 = b.val
    omega
  · unfold val_main_v96
    rw [select_apply, show val_main_call2_v12 (F := Ideal) x14 (ix2 b 0) = 1#1 from
      Host.reduce_andi_one _ _ _ _ _ rfl (within x14 h)]
    refine (if_pos rfl).trans ?_
    refine (Hosted.pick_apply gather_S16384x20_S16384x1x1_S16384x1_n_1_0_0_1_2_11_wf
      (val_main_v94 (F := Ideal) x0 x1 x2 x3 x4 x5 x6 x7) (val_main_call2_v5 (F := Ideal) x14) b 0 k ?_).trans
      (logprob_apply x0 x1 x2 x3 x4 x5 x6 x7 b k)
    rw [index_apply x14 b 0 0 k hk]
    exact (word k).2.2.2

/-! ## The critic -/

/-- A sum over both players' columns, player by player. -/
theorem sum_sides (f : Fin 512 → EReal) : ∑ k, f k = (∑ k, f (side 0 k)) + ∑ k, f (side 1 k) := by
  refine (Fin.sum_univ_add (a := 256) (b := 256) f).trans (congrArg₂ (· + ·) ?_ ?_)
  · exact Finset.sum_congr rfl fun k _ => congrArg f (Fin.ext (by show k.val = 256 * 0 + k.val; omega))
  · exact Finset.sum_congr rfl fun k _ => congrArg f (Fin.ext (by show 256 + k.val = 256 * 1 + k.val; omega))

/-- The value. -/
theorem val_eq (b : Fin 16384) :
    val_main_v123 (F := Ideal) x0 x1 x2 x3 x4 x5 x10 x11 x12 x13 (ix1 b)
      = kval (player x0 x1 x2 x3 x4 x5 0 b) (player x0 x1 x2 x3 x4 x5 1 b) (fun k j => x10 (ix2 (side 0 k) j))
          (fun k j => x10 (ix2 (side 1 k) j)) (fun j => x11 (ix1 j)) (fun j => x12 (ix2 j 0)) (x13 (ix1 0)) := by
  have e1 : val_main_v122 (F := Ideal) x0 x1 x2 x3 x4 x5 x10 x11 x12 x13
      = Hosted.layer (val_main_v118 (F := Ideal) x0 x1 x2 x3 x4 x5 x10 x11) x12 x13 bcast_S1_S1x1_1 bcast_S1x1_S16384x1_0_1 := rfl
  have e2 : val_main_v118 (F := Ideal) x0 x1 x2 x3 x4 x5 x10 x11
      = Hosted.act (val_main_v105 (F := Ideal) x0 x1 x2 x3 x4 x5 x10 x11) bcast_S_S16384x256 := rfl
  have e3 : val_main_v105 (F := Ideal) x0 x1 x2 x3 x4 x5 x10 x11
      = Hosted.layer (val_main_v101 (F := Ideal) x0 x1 x2 x3 x4 x5) x10 x11 bcast_S256_S1x256_1 bcast_S1x256_S16384x256_0_1 := rfl
  have e4 : ∀ p, ∀ j : Fin 256, (∑ k, val_main_v101 (F := Ideal) x0 x1 x2 x3 x4 x5 (ix2 b (side p k)) * x10 (ix2 (side p k) j))
      = ∑ k, player x0 x1 x2 x3 x4 x5 p b k * x10 (ix2 (side p k) j) := fun p j =>
    Finset.sum_congr rfl fun k _ => congrArg (· * x10 (ix2 (side p k) j)) (both_apply x0 x1 x2 x3 x4 x5 p b k)
  refine (shapeCast_apply _ _ (ix1 b) (ix2 b 0) ?_).trans ?_
  · rw [Shape.rowMajor_val_one, Shape.rowMajor_val_two]
    show b.val * 1 + 0 = b.val
    omega
  rw [e1]
  refine (Hosted.layer_apply _ x12 x13 _ _ b 0).trans ?_
  unfold kval lin
  refine congrArg (· + x13 (ix1 0)) (Finset.sum_congr rfl fun j _ => congrArg (· * x12 (ix2 j 0)) ?_)
  rw [e2]
  refine (Hosted.act_apply _ _ _).trans (congrArg gelu ?_)
  rw [e3]
  refine (Hosted.layer_apply _ x10 x11 _ _ b j).trans (congrArg (· + x11 (ix1 j)) ?_)
  rw [sum_sides, e4, e4]

end Cert.ReferenceIdeal.Heads

end
-- ==== Proof.Meet.lean ====
/- THE TWO PROGRAMS' RESULTS ARE EQUAL: where the shared layers' inputs, weights and biases are real numbers and every
   action names one of the 20 logits. -/
module

public import proofs.«01_k».proof.Proof.Chain
public import proofs.«01_k».proof.Proof.RefHeads

@[expose] public section

set_option maxRecDepth 16384

noncomputable section

namespace Cert.Meet

open Idealize.ShloMosaic hiding ix1 ix2 ix3 eq_ix1 eq_ix2 eq_ix3
open Idealize.ShloMosaic.TcCoe Idealize.ShloMosaic.ValueIdx Idealize.SL.Sem
open Cert.KernelIdeal Cert.KernelIdeal.Gen Cert.KernelIdeal.Chain Cert.Alg
open Cert.ReferenceIdeal.Read (val_main_v97 val_main_v100 val_main_v123)

variable (m : (ℓ : Loc nD τ sig) → Buf (Elt Ideal) ℓ) (ρ : Dev nD → PrngReg) (c : Dev nD)

/-- What is asked of the arguments on one device. -/
structure Fine : Prop where
  states : ∀ i, IsReal (states m c i)
  beliefs : ∀ i, IsReal (beliefs m c i)
  w1 : ∀ k j, IsReal (w1 m c k j)
  b1 : ∀ j, IsReal (b1 m c j)
  w2 : ∀ k j, IsReal (w2 m c k j)
  b2 : ∀ j, IsReal (b2 m c j)
  act : ∀ b, ∃ k : Fin 20, act m c b = BitVec.ofNat 32 k.val

/-- The kernel's argument `main_arg2`, whole; the same of the others the results depend on. -/
abbrev a2 : FVec Ideal S256x512 .f32 := m ((c : Thread nD τ).loc main_arg2)
/-- The first layer's bias. -/
abbrev a3 : FVec Ideal S512 .f32 := m ((c : Thread nD τ).loc main_arg3)
/-- The second layer's weights. -/
abbrev a4 : FVec Ideal S512x256 .f32 := m ((c : Thread nD τ).loc main_arg4)
/-- The second layer's bias. -/
abbrev a5 : FVec Ideal S256 .f32 := m ((c : Thread nD τ).loc main_arg5)
/-- The actor's weights. -/
abbrev a6 : FVec Ideal S256x20 .f32 := m ((c : Thread nD τ).loc main_arg6)
/-- The actor's bias. -/
abbrev a7 : FVec Ideal S20 .f32 := m ((c : Thread nD τ).loc main_arg7)
/-- The critic's weights. -/
abbrev a10 : FVec Ideal S512x256 .f32 := m ((c : Thread nD τ).loc main_arg10)
/-- The critic's bias. -/
abbrev a11 : FVec Ideal S256 .f32 := m ((c : Thread nD τ).loc main_arg11)
/-- The critic's output weights. -/
abbrev a12 : FVec Ideal S256x1 .f32 := m ((c : Thread nD τ).loc main_arg12)
/-- The critic's output bias. -/
abbrev a13 : FVec Ideal S1 .f32 := m ((c : Thread nD τ).loc main_arg13)
/-- The actions. -/
abbrev a14 : IVec S16384 32 := m ((c : Thread nD τ).loc main_arg14)

/-- Every stacked row is some player's. -/
theorem row_surj (r : Fin 32768) : ∃ p b, r = row p b :=
  ⟨⟨r.val % 2, by omega⟩, ⟨r.val / 2, by have := r.isLt; omega⟩, Fin.ext (by show r.val = 2 * (r.val / 2) + r.val % 2; omega)⟩

/-- The kernel's rows of inputs are the reference's. -/
theorem inputs_eq : X m c = fun p b => Cert.ReferenceIdeal.Hidden.stacked (states m c) (beliefs m c) (row p b) :=
  funext fun p => funext fun b => funext fun k => (Cert.ReferenceIdeal.Hidden.input_apply (states m c) (beliefs m c) p b k).symm

variable {m c} (h : Fine m c)
include h

/-- The stacked inputs are real. -/
theorem stacked_real (r : Fin 32768) (k : Fin 256) :
    IsReal (Cert.ReferenceIdeal.Hidden.stacked (states m c) (beliefs m c) r k) := by
  obtain ⟨p, b, rfl⟩ := row_surj r
  unfold Cert.ReferenceIdeal.Hidden.stacked
  rw [Cert.ReferenceIdeal.Hidden.input_apply]
  split_ifs
  · exact h.states _
  · exact h.beliefs _

/-- The players' rows after both layers agree. -/
theorem hid_eq (p : Fin 2) (b : Fin 16384) : hid m c p b
    = Cert.ReferenceIdeal.Heads.player (states m c) (beliefs m c) (a2 m c) (a3 m c) (a4 m c) (a5 m c) p b := by
  unfold hid
  rw [inputs_eq]
  exact congrFun (congrFun (net_eq (Cert.ReferenceIdeal.Hidden.stacked (states m c) (beliefs m c)) (w1 m c) (b1 m c) (w2 m c) (b2 m c)
    (stacked_real h) h.w1 h.b1 h.w2 h.b2) p) b

/-- The logits agree. -/
theorem logits_eq (b : Fin 16384) : lin (hid m c 0 b) (wa m c) (ba m c)
    = Cert.ReferenceIdeal.Heads.logits (states m c) (beliefs m c) (a2 m c) (a3 m c) (a4 m c) (a5 m c) (a6 m c) (a7 m c) b := by
  rw [hid_eq h]
  rfl

/-- The actions' log-probabilities agree. -/
theorem alp : W7 m ρ c (Proc.devRef .tc main_v14)
    = val_main_v97 (F := Ideal) (states m c) (beliefs m c) (a2 m c) (a3 m c) (a4 m c) (a5 m c) (a6 m c) (a7 m c) (a14 m c) := by
  funext i
  obtain ⟨b, rfl⟩ : ∃ b : Fin 16384, i = ix1 b := ⟨i 0, eq_ix1 i⟩
  refine (alp_eq m ρ c b).trans ?_
  rw [logits_eq h]
  exact (Cert.ReferenceIdeal.Heads.alp_eq _ _ _ _ _ _ _ _ (a14 m c) h.act b).symm

/-- The entropies agree. -/
theorem ent : W7 m ρ c (Proc.devRef .tc main_v16)
    = val_main_v100 (F := Ideal) (states m c) (beliefs m c) (a2 m c) (a3 m c) (a4 m c) (a5 m c) (a6 m c) (a7 m c) := by
  funext i
  obtain ⟨b, rfl⟩ : ∃ b : Fin 16384, i = ix1 b := ⟨i 0, eq_ix1 i⟩
  refine (ent_eq m ρ c b).trans ?_
  rw [logits_eq h]
  exact (Cert.ReferenceIdeal.Heads.ent_eq _ _ _ _ _ _ _ _ b).symm

/-- The values agree. -/
theorem val : W7 m ρ c (Proc.devRef .tc main_v15)
    = val_main_v123 (F := Ideal) (states m c) (beliefs m c) (a2 m c) (a3 m c) (a4 m c) (a5 m c) (a10 m c) (a11 m c) (a12 m c) (a13 m c) := by
  funext i
  obtain ⟨b, rfl⟩ : ∃ b : Fin 16384, i = ix1 b := ⟨i 0, eq_ix1 i⟩
  refine (val_eq m ρ c b).trans ?_
  rw [hid_eq h, hid_eq h]
  exact (Cert.ReferenceIdeal.Heads.val_eq _ _ _ _ _ _ (a10 m c) (a11 m c) (a12 m c) (a13 m c) b).symm

end Cert.Meet

end
-- ==== Proof.Range.lean ====
/- What the precondition says of the arguments: the magnitudes it compares with infinity are those of real numbers, and
   the actions it compares with 0 and 20 are the words of 0 to 19. -/
module

public import proofs.«01_k».proof.Defs
public import proofs.«01_k».proof.Proof.Meet

@[expose] public section

noncomputable section

namespace Cert.Range

open Idealize.ShloMosaic hiding ix1 ix2 ix3 eq_ix1 eq_ix2 eq_ix3
open Idealize.ShloMosaic.TcCoe Idealize.ShloMosaic.ValueIdx Idealize.SL.Sem Cert.Alg

/-- The broadcasts the precondition is written with. -/
theorem facts : Cert.Pre_finite_inputs.Facts where
  bcast_S_S16384x2x128 := by decide
  bcast_S_S256x512 := by decide
  bcast_S_S512 := by decide
  bcast_S_S512x256 := by decide
  bcast_S_S256 := by decide
  bcast_S_S16384 := by decide

/-- An array whose magnitudes are below infinity is an array of real numbers. -/
theorem real_of_lt {s : Shape} (x : FVec Ideal s .f32) (h : Hosted.Sc.BroadcastsInDim s ![])
    (e : cmpf .olt (Host.absf x) (broadcastInDim s ![] h (constant Hosted.Sc .f32 0x7F800000#32)) = fun _ => 1#1) (i : s.Idx) :
    IsReal (x i) := by
  have e' : BitVec.ofBool (decide (max (x i) (-(x i)) < Ideal.ofBits .f32 0x7F800000#32)) = 1#1 := congrFun e i
  rw [Consts.pos_inf] at e'
  have lt : max (x i) (-(x i)) < ⊤ := by
    by_contra hn
    rw [decide_eq_false hn] at e'
    exact absurd e' (by decide)
  rcases trichotomy (x i) with hx | ⟨r, hx⟩ | hx
  · rw [hx] at lt; simp at lt
  · exact ⟨r, hx⟩
  · rw [hx] at lt; simp at lt

/-- A word at least 0 and below 20, read signed, is one of the first twenty. -/
theorem word_of_range (a : BitVec 32) (h0 : IntOp.cmpi .sge a 0#32 = 1#1) (h20 : IntOp.cmpi .slt a 20#32 = 1#1) :
    ∃ k : Fin 20, a = BitVec.ofNat 32 k.val := by
  have g0 : (0#32).sle a = true := by
    by_contra hn
    have h0' : BitVec.ofBool ((0#32).sle a) = 1#1 := h0
    rw [Bool.eq_false_iff.mpr hn] at h0'
    exact absurd h0' (by decide)
  have g20 : a.slt 20#32 = true := by
    by_contra hn
    have h20' : BitVec.ofBool (a.slt 20#32) = 1#1 := h20
    rw [Bool.eq_false_iff.mpr hn] at h20'
    exact absurd h20' (by decide)
  have i0 : (0 : ℤ) ≤ a.toInt := BitVec.sle_iff_toInt_le.1 g0
  have i20 : a.toInt < 20 := BitVec.slt_iff_toInt_lt.1 g20
  have hlt : a.toNat < 20 := by
    rw [BitVec.toInt_eq_toNat_cond] at i0 i20
    have := a.isLt
    split_ifs at i0 i20 <;> omega
  exact ⟨⟨a.toNat, hlt⟩, by rw [BitVec.ofNat_toNat, BitVec.setWidth_eq]⟩

/-- The precondition gives what the equality asks. -/
theorem fine (m : (ℓ : Loc KernelIdeal.nD KernelIdeal.τ KernelIdeal.sig) → Buf (Elt Ideal) ℓ)
    (h : Cert.Pre_KernelIdeal_finite_inputs (hPre_finite_inputs := facts) m) (c : Dev KernelIdeal.nD) : Meet.Fine m c where
  states i := real_of_lt (KernelIdeal.Chain.states m c) facts.bcast_S_S16384x2x128 (h c).1 i
  beliefs i := real_of_lt (KernelIdeal.Chain.beliefs m c) facts.bcast_S_S16384x2x128 (h c).2.1 i
  w1 k j := real_of_lt (Meet.a2 m c) facts.bcast_S_S256x512 (h c).2.2.1 (ix2 k j)
  b1 j := real_of_lt (Meet.a3 m c) facts.bcast_S_S512 (h c).2.2.2.1 (ix1 j)
  w2 k j := real_of_lt (Meet.a4 m c) facts.bcast_S_S512x256 (h c).2.2.2.2.1 (ix2 k j)
  b2 j := real_of_lt (Meet.a5 m c) facts.bcast_S_S256 (h c).2.2.2.2.2.1 (ix1 j)
  act b := word_of_range _ (congrFun (h c).2.2.2.2.2.2.1 (ix1 b)) (congrFun (h c).2.2.2.2.2.2.2 (ix1 b))

end Cert.Range

end
-- ==== Proof.lean ====
/- THE CLAIM: the three programs' frames, the idealization (no rewrite), and the equality of the kernel's and the
   reference's results, assembled from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Range
public import Idealize.ShloMosaic.Adequacy
public import Idealize.ShloMosaic.Init

@[expose] public section

noncomputable section

namespace Cert.Proof

open Idealize.ShloMosaic Idealize.SL.Sem Cert

/-- The reference runs, its arguments end unchanged and every counter at zero: it has no semaphore. -/
theorem frame_reference : quiescent_ReferenceIdeal (hReferenceIdeal := ReferenceIdeal.Gen.facts) := fun m g _ =>
  (θ_run ReferenceIdeal.defs _ _).mono (fun r h => ⟨fun c => (h c).2.2.2, sem_eq_zero_of_no_sems (by decide) r.2⟩)
    (ReferenceIdeal.Value.run (F := Ideal) m g)

/-- The kernel and the reference end with equal results. -/
theorem algebraic : algebraic_KernelIdeal_ReferenceIdeal_pre_finite_inputs (hKernelIdeal := KernelIdeal.Gen.facts)
    (hReferenceIdeal := ReferenceIdeal.Gen.facts) (hPre_finite_inputs := Range.facts) := by
  intro m g m' g' pre same
  refine ⟨fun c => KernelIdeal.Gen.W7 m g c (Proc.devRef .tc KernelIdeal.main_v14),
    fun c => KernelIdeal.Gen.W7 m g c (Proc.devRef .tc KernelIdeal.main_v15),
    fun c => KernelIdeal.Gen.W7 m g c (Proc.devRef .tc KernelIdeal.main_v16), ?_, ?_⟩
  · exact (θ_run KernelIdeal.defs _ _).mono (fun r h c => ⟨h c KernelIdeal.main_v14 (by decide), h c KernelIdeal.main_v15 (by decide),
      h c KernelIdeal.main_v16 (by decide),
      (h c KernelIdeal.main_arg0 (by decide)).trans (KernelIdeal.Gen.W7_main_arg0 m g c),
      (h c KernelIdeal.main_arg1 (by decide)).trans (KernelIdeal.Gen.W7_main_arg1 m g c),
      (h c KernelIdeal.main_arg2 (by decide)).trans (KernelIdeal.Gen.W7_main_arg2 m g c),
      (h c KernelIdeal.main_arg3 (by decide)).trans (KernelIdeal.Gen.W7_main_arg3 m g c),
      (h c KernelIdeal.main_arg4 (by decide)).trans (KernelIdeal.Gen.W7_main_arg4 m g c),
      (h c KernelIdeal.main_arg5 (by decide)).trans (KernelIdeal.Gen.W7_main_arg5 m g c),
      (h c KernelIdeal.main_arg6 (by decide)).trans (KernelIdeal.Gen.W7_main_arg6 m g c),
      (h c KernelIdeal.main_arg7 (by decide)).trans (KernelIdeal.Gen.W7_main_arg7 m g c),
      (h c KernelIdeal.main_arg8 (by decide)).trans (KernelIdeal.Gen.W7_main_arg8 m g c),
      (h c KernelIdeal.main_arg9 (by decide)).trans (KernelIdeal.Gen.W7_main_arg9 m g c),
      (h c KernelIdeal.main_arg10 (by decide)).trans (KernelIdeal.Gen.W7_main_arg10 m g c),
      (h c KernelIdeal.main_arg11 (by decide)).trans (KernelIdeal.Gen.W7_main_arg11 m g c),
      (h c KernelIdeal.main_arg12 (by decide)).trans (KernelIdeal.Gen.W7_main_arg12 m g c),
      (h c KernelIdeal.main_arg13 (by decide)).trans (KernelIdeal.Gen.W7_main_arg13 m g c),
      (h c KernelIdeal.main_arg14 (by decide)).trans (KernelIdeal.Gen.W7_main_arg14 m g c)⟩)
      (KernelIdeal.Whole.run_all (F := Ideal) m g)
  · refine (θ_run ReferenceIdeal.defs _ _).mono (fun r h c => ?_) (ReferenceIdeal.Value.run (F := Ideal) m' g')
    have fine := Range.fine m pre c
    obtain ⟨e0, e1, e2, e3, e4, e5, e6, e7, _, _, e10, e11, e12, e13, e14⟩ := same c
    obtain ⟨h97, h123, h100, kept⟩ := h c
    refine ⟨h97.trans ((ReferenceIdeal.Read.val_main_v97_eq _).trans ?_), h123.trans ((ReferenceIdeal.Read.val_main_v123_eq _).trans ?_),
      h100.trans ((ReferenceIdeal.Read.val_main_v100_eq _).trans ?_), kept⟩
    · simp only [StableHlo.launchContents_devRef, e0, e1, e2, e3, e4, e5, e6, e7, e14]
      exact (Meet.alp g fine).symm
    · simp only [StableHlo.launchContents_devRef, e0, e1, e2, e3, e4, e5, e10, e11, e12, e13]
      exact (Meet.val g fine).symm
    · simp only [StableHlo.launchContents_devRef, e0, e1, e2, e3, e4, e5, e6, e7]
      exact (Meet.ent g fine).symm

/-- The claims together. -/
theorem claim : Cert.Claim := ⟨Kernel.Gen.facts, KernelIdeal.Gen.facts, ReferenceIdeal.Gen.facts, Range.facts,
  fun m g _ => Kernel.Gen.frame m g, fun m g _ => KernelIdeal.Gen.frame m g, fun m g _ => KernelIdeal.Gen.frame m g,
  frame_reference, fun m g _ => frame_reference m g trivial, trivial, algebraic⟩

end Cert.Proof

end
